-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x32 : Shape := ⟨2, ![512, 32]⟩
abbrev S1024x2 : Shape := ⟨2, ![1024, 2]⟩
abbrev S4x512x1024 : Shape := ⟨3, ![4, 512, 1024]⟩
abbrev S_ : Shape := ⟨0, ![]⟩

class Facts : Prop where
  bcast_S_S1024x512 : S_.BroadcastsInDim S1024x512 (![] : Fin 0 → Fin S1024x512.rank)
  bcast_S_S512x32 : S_.BroadcastsInDim S512x32 (![] : Fin 0 → Fin S512x32.rank)
  bcast_S_S1024x2 : S_.BroadcastsInDim S1024x2 (![] : Fin 0 → Fin S1024x2.rank)

variable [Facts]

def fn {F : FTy → Type} [FloatOps F] (main_arg0 : FVec F S1024x512 .f32) (main_arg1 : FVec F S512x32 .f32) (main_arg2 : IVec S1024x2 32) (main_arg3 : FVec F S4x512x1024 .f32) : IVec S1024x512 1 × IVec S512x32 1 × IVec S1024x2 1 × IVec S1024x2 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_v3 : FVec F S512x32 .f32 := Host.absf main_arg1
  let main_cst_0 : FVec F S_ .f32 := constant S_ .f32 0x7F800000#32
  let main_v4 : FVec F S512x32 .f32 := broadcastInDim S512x32 ![] bcast_S_S512x32 main_cst_0
  let main_v5 : IVec S512x32 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 32#32
  let main_v8 : IVec S1024x2 32 := broadcastInDim S1024x2 ![] bcast_S_S1024x2 main_c_1
  let main_v9 : IVec S1024x2 1 := cmpi .slt main_arg2 main_v8
  (main_v2, main_v5, main_v7, main_v9)
-- ==== Pre_routed_ReferenceIdeal.lean ====
abbrev S1024x512 : Shape := ⟨2, ![1024, 512]⟩
abbrev S512x32 : Shape := ⟨2, ![512, 32]⟩
abbrev S1024x2 : Shape := ⟨2, ![1024, 2]⟩
abbrev S32x512x1024 : Shape := ⟨3, ![32, 512, 1024]⟩
abbrev S_ : Shape := ⟨0, ![]⟩

class Facts : Prop where
  bcast_S_S1024x512 : S_.BroadcastsInDim S1024x512 (![] : Fin 0 → Fin S1024x512.rank)
  bcast_S_S512x32 : S_.BroadcastsInDim S512x32 (![] : Fin 0 → Fin S512x32.rank)
  bcast_S_S1024x2 : S_.BroadcastsInDim S1024x2 (![] : Fin 0 → Fin S1024x2.rank)

variable [Facts]

def fn {F : FTy → Type} [FloatOps F] (main_arg0 : FVec F S1024x512 .f32) (main_arg1 : FVec F S512x32 .f32) (main_arg2 : IVec S1024x2 32) (main_arg3 : FVec F S32x512x1024 .f32) : IVec S1024x512 1 × IVec S512x32 1 × IVec S1024x2 1 × IVec S1024x2 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_v3 : FVec F S512x32 .f32 := Host.absf main_arg1
  let main_cst_0 : FVec F S_ .f32 := constant S_ .f32 0x7F800000#32
  let main_v4 : FVec F S512x32 .f32 := broadcastInDim S512x32 ![] bcast_S_S512x32 main_cst_0
  let main_v5 : IVec S512x32 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 32#32
  let main_v8 : IVec S1024x2 32 := broadcastInDim S1024x2 ![] bcast_S_S1024x2 main_c_1
  let main_v9 : IVec S1024x2 1 := cmpi .slt main_arg2 main_v8
  (main_v2, main_v5, main_v7, main_v9)
-- ==== Kernel.lean ====
abbrev S1024x512 : Shape := ⟨2, ![1024, 512]⟩
abbrev S512x32 : Shape := ⟨2, ![512, 32]⟩
abbrev S1024x2 : Shape := ⟨2, ![1024, 2]⟩
abbrev S4x512x1024 : Shape := ⟨3, ![4, 512, 1024]⟩
abbrev S128x1024 : Shape := ⟨2, ![128, 1024]⟩
abbrev S4x8x128x256 : Shape := ⟨4, ![4, 8, 128, 256]⟩
abbrev S4x7x128x256 : Shape := ⟨4, ![4, 7, 128, 256]⟩
abbrev S4x7 : Shape := ⟨2, ![4, 7]⟩
abbrev S_ : Shape := ⟨0, ![]⟩
abbrev S1024x32 : Shape := ⟨2, ![1024, 32]⟩
abbrev S1024 : Shape := ⟨1, ![1024]⟩
abbrev S1024x1 : Shape := ⟨2, ![1024, 1]⟩
abbrev S1024x256 : Shape := ⟨2, ![1024, 256]⟩
abbrev S1x512x256 : Shape := ⟨3, ![1, 512, 256]⟩
abbrev S512x256 : Shape := ⟨2, ![512, 256]⟩
abbrev S8x128x256 : Shape := ⟨3, ![8, 128, 256]⟩
abbrev S1x8x128x256 : Shape := ⟨4, ![1, 8, 128, 256]⟩
abbrev S1x1 : Shape := ⟨2, ![1, 1]⟩
abbrev S1x1x128x256 : Shape := ⟨4, ![1, 1, 128, 256]⟩
abbrev S128x256 : Shape := ⟨2, ![128, 256]⟩

abbrev nBuf : Space → Nat
  | .hbm => 5
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x2, .i32⟩
  | .hbm, ⟨3, _⟩ => ⟨S4x512x1024, .f32⟩
  | .hbm, ⟨4, _⟩ => ⟨S128x1024, .f32⟩
  | .local _ .vmem, ⟨0, _⟩ => ⟨S1024x512, .f32⟩
  | .local _ .vmem, ⟨1, _⟩ => ⟨S512x32, .f32⟩
  | .local _ .vmem, ⟨2, _⟩ => ⟨S1024x2, .i32⟩
  | .local _ .vmem, ⟨3, _⟩ => ⟨S4x512x1024, .f32⟩
  | .local _ .vmem, ⟨4, _⟩ => ⟨S128x1024, .f32⟩
  | .local _ .vmem, ⟨5, _⟩ => ⟨S4x8x128x256, .bf16⟩
  | .local _ .vmem, ⟨6, _⟩ => ⟨S4x7x128x256, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_74 : BitVec 32) : Fin 4 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v124 : BitVec 32 := Scalar.addi v2 c1_i32_74
  let c8_i32_75 : BitVec 32 := 8#32
  let v125 : BitVec 32 := Scalar.remsi v124 c8_i32_75
  let c0_i32_87 : BitVec 32 := 0#32
  let c0_i32_88 : BitVec 32 := 0#32
  ![0, v125.toNat, 0, 0]
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_74 : BitVec 32 := 1#32
  let v124 : BitVec 32 := Scalar.addi v2 c1_i32_74
  let c8_i32_75 : BitVec 32 := 8#32
  let v125 : BitVec 32 := Scalar.remsi v124 c8_i32_75
  let c1_i32_83 : BitVec 32 := 1#32
  let v126 : BitVec 32 := Scalar.muli v125 c1_i32_83
  let v127 : BitVec 32 := Scalar.addi c0_i32_84 v126
  v127.toNat
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v136 : BitVec 32 := Scalar.addi v2 c2_i32_89
  let c8_i32_90 : BitVec 32 := 8#32
  let v137 : BitVec 32 := Scalar.remsi v136 c8_i32_90
  let c1_i32_98 : BitVec 32 := 1#32
  let v138 : BitVec 32 := Scalar.muli v137 c1_i32_98
  let v139 : BitVec 32 := Scalar.addi c0_i32_99 v138
  v139.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v148 : BitVec 32 := Scalar.addi v2 c3_i32_104
  let c8_i32_105 : BitVec 32 := 8#32
  let v149 : BitVec 32 := Scalar.remsi v148 c8_i32_105
  let c1_i32_113 : BitVec 32 := 1#32
  let v150 : BitVec 32 := Scalar.muli v149 c1_i32_113
  let v151 : BitVec 32 := Scalar.addi c0_i32_114 v150
  v151.toNat
def k0_dev11 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v160 : BitVec 32 := Scalar.addi v2 c4_i32_119
  let c8_i32_120 : BitVec 32 := 8#32
  let v161 : BitVec 32 := Scalar.remsi v160 c8_i32_120
  let c1_i32_128 : BitVec 32 := 1#32
  let v162 : BitVec 32 := Scalar.muli v161 c1_i32_128
  let v163 : BitVec 32 := Scalar.addi c0_i32_129 v162
  v163.toNat
def k0_dev12 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_134 : BitVec 32 := 5#32
  let v172 : BitVec 32 := Scalar.addi v2 c5_i32_134
  let c8_i32_135 : BitVec 32 := 8#32
  let v173 : BitVec 32 := Scalar.remsi v172 c8_i32_135
  let c1_i32_143 : BitVec 32 := 1#32
  let v174 : BitVec 32 := Scalar.muli v173 c1_i32_143
  let v175 : BitVec 32 := Scalar.addi c0_i32_144 v174
  v175.toNat
def k0_dev13 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_149 : BitVec 32 := 6#32
  let v184 : BitVec 32 := Scalar.addi v2 c6_i32_149
  let c8_i32_150 : BitVec 32 := 8#32
  let v185 : BitVec 32 := Scalar.remsi v184 c8_i32_150
  let c1_i32_158 : BitVec 32 := 1#32
  let v186 : BitVec 32 := Scalar.muli v185 c1_i32_158
  let v187 : BitVec 32 := Scalar.addi c0_i32_159 v186
  v187.toNat
def k0_dev14 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_164 : BitVec 32 := 7#32
  let v196 : BitVec 32 := Scalar.addi v2 c7_i32_164
  let c8_i32_165 : BitVec 32 := 8#32
  let v197 : BitVec 32 := Scalar.remsi v196 c8_i32_165
  let c1_i32_173 : BitVec 32 := 1#32
  let v198 : BitVec 32 := Scalar.muli v197 c1_i32_173
  let v199 : BitVec 32 := Scalar.addi c0_i32_174 v198
  v199.toNat
def k0_off2 (d0 : Dev nD) (c1_i32_199 : BitVec 32) : Fin 4 → Nat :=
  let c1_i32_201 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v230 : BitVec 32 := Scalar.addi v2 c1_i32_199
  let c8_i32_200 : BitVec 32 := 8#32
  let v231 : BitVec 32 := Scalar.remsi v230 c8_i32_200
  let c0_i32_212 : BitVec 32 := 0#32
  let c0_i32_213 : BitVec 32 := 0#32
  ![1, v231.toNat, 0, 0]
def k0_dev15 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_199 : BitVec 32 := 1#32
  let v230 : BitVec 32 := Scalar.addi v2 c1_i32_199
  let c8_i32_200 : BitVec 32 := 8#32
  let v231 : BitVec 32 := Scalar.remsi v230 c8_i32_200
  let c1_i32_208 : BitVec 32 := 1#32
  let v232 : BitVec 32 := Scalar.muli v231 c1_i32_208
  let v233 : BitVec 32 := Scalar.addi c0_i32_209 v232
  v233.toNat
def k0_dev16 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_214 : BitVec 32 := 2#32
  let v242 : BitVec 32 := Scalar.addi v2 c2_i32_214
  let c8_i32_215 : BitVec 32 := 8#32
  let v243 : BitVec 32 := Scalar.remsi v242 c8_i32_215
  let c1_i32_223 : BitVec 32 := 1#32
  let v244 : BitVec 32 := Scalar.muli v243 c1_i32_223
  let v245 : BitVec 32 := Scalar.addi c0_i32_224 v244
  v245.toNat
def k0_dev17 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_229 : BitVec 32 := 3#32
  let v254 : BitVec 32 := Scalar.addi v2 c3_i32_229
  let c8_i32_230 : BitVec 32 := 8#32
  let v255 : BitVec 32 := Scalar.remsi v254 c8_i32_230
  let c1_i32_238 : BitVec 32 := 1#32
  let v256 : BitVec 32 := Scalar.muli v255 c1_i32_238
  let v257 : BitVec 32 := Scalar.addi c0_i32_239 v256
  v257.toNat
def k0_dev18 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_244 : BitVec 32 := 4#32
  let v266 : BitVec 32 := Scalar.addi v2 c4_i32_244
  let c8_i32_245 : BitVec 32 := 8#32
  let v267 : BitVec 32 := Scalar.remsi v266 c8_i32_245
  let c1_i32_253 : BitVec 32 := 1#32
  let v268 : BitVec 32 := Scalar.muli v267 c1_i32_253
  let v269 : BitVec 32 := Scalar.addi c0_i32_254 v268
  v269.toNat
def k0_dev19 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_259 : BitVec 32 := 5#32
  let v278 : BitVec 32 := Scalar.addi v2 c5_i32_259
  let c8_i32_260 : BitVec 32 := 8#32
  let v279 : BitVec 32 := Scalar.remsi v278 c8_i32_260
  let c1_i32_268 : BitVec 32 := 1#32
  let v280 : BitVec 32 := Scalar.muli v279 c1_i32_268
  let v281 : BitVec 32 := Scalar.addi c0_i32_269 v280
  v281.toNat
def k0_dev20 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_274 : BitVec 32 := 6#32
  let v290 : BitVec 32 := Scalar.addi v2 c6_i32_274
  let c8_i32_275 : BitVec 32 := 8#32
  let v291 : BitVec 32 := Scalar.remsi v290 c8_i32_275
  let c1_i32_283 : BitVec 32 := 1#32
  let v292 : BitVec 32 := Scalar.muli v291 c1_i32_283
  let v293 : BitVec 32 := Scalar.addi c0_i32_284 v292
  v293.toNat
def k0_dev21 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_289 : BitVec 32 := 7#32
  let v302 : BitVec 32 := Scalar.addi v2 c7_i32_289
  let c8_i32_290 : BitVec 32 := 8#32
  let v303 : BitVec 32 := Scalar.remsi v302 c8_i32_290
  let c1_i32_298 : BitVec 32 := 1#32
  let v304 : BitVec 32 := Scalar.muli v303 c1_i32_298
  let v305 : BitVec 32 := Scalar.addi c0_i32_299 v304
  v305.toNat
def k0_off3 (d0 : Dev nD) (c1_i32_324 : BitVec 32) : Fin 4 → Nat :=
  let c2_i32_326 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v336 : BitVec 32 := Scalar.addi v2 c1_i32_324
  let c8_i32_325 : BitVec 32 := 8#32
  let v337 : BitVec 32 := Scalar.remsi v336 c8_i32_325
  let c0_i32_337 : BitVec 32 := 0#32
  let c0_i32_338 : BitVec 32 := 0#32
  ![2, v337.toNat, 0, 0]
def k0_dev22 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_324 : BitVec 32 := 1#32
  let v336 : BitVec 32 := Scalar.addi v2 c1_i32_324
  let c8_i32_325 : BitVec 32 := 8#32
  let v337 : BitVec 32 := Scalar.remsi v336 c8_i32_325
  let c1_i32_333 : BitVec 32 := 1#32
  let v338 : BitVec 32 := Scalar.muli v337 c1_i32_333
  let v339 : BitVec 32 := Scalar.addi c0_i32_334 v338
  v339.toNat
def k0_dev23 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_339 : BitVec 32 := 2#32
  let v348 : BitVec 32 := Scalar.addi v2 c2_i32_339
  let c8_i32_340 : BitVec 32 := 8#32
  let v349 : BitVec 32 := Scalar.remsi v348 c8_i32_340
  let c1_i32_348 : BitVec 32 := 1#32
  let v350 : BitVec 32 := Scalar.muli v349 c1_i32_348
  let v351 : BitVec 32 := Scalar.addi c0_i32_349 v350
  v351.toNat
def k0_dev24 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_354 : BitVec 32 := 3#32
  let v360 : BitVec 32 := Scalar.addi v2 c3_i32_354
  let c8_i32_355 : BitVec 32 := 8#32
  let v361 : BitVec 32 := Scalar.remsi v360 c8_i32_355
  let c1_i32_363 : BitVec 32 := 1#32
  let v362 : BitVec 32 := Scalar.muli v361 c1_i32_363
  let v363 : BitVec 32 := Scalar.addi c0_i32_364 v362
  v363.toNat
def k0_dev25 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_369 : BitVec 32 := 4#32
  let v372 : BitVec 32 := Scalar.addi v2 c4_i32_369
  let c8_i32_370 : BitVec 32 := 8#32
  let v373 : BitVec 32 := Scalar.remsi v372 c8_i32_370
  let c1_i32_378 : BitVec 32 := 1#32
  let v374 : BitVec 32 := Scalar.muli v373 c1_i32_378
  let v375 : BitVec 32 := Scalar.addi c0_i32_379 v374
  v375.toNat
def k0_dev26 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_384 : BitVec 32 := 5#32
  let v384 : BitVec 32 := Scalar.addi v2 c5_i32_384
  let c8_i32_385 : BitVec 32 := 8#32
  let v385 : BitVec 32 := Scalar.remsi v384 c8_i32_385
  let c1_i32_393 : BitVec 32 := 1#32
  let v386 : BitVec 32 := Scalar.muli v385 c1_i32_393
  let v387 : BitVec 32 := Scalar.addi c0_i32_394 v386
  v387.toNat
def k0_dev27 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_399 : BitVec 32 := 6#32
  let v396 : BitVec 32 := Scalar.addi v2 c6_i32_399
  let c8_i32_400 : BitVec 32 := 8#32
  let v397 : BitVec 32 := Scalar.remsi v396 c8_i32_400
  let c1_i32_408 : BitVec 32 := 1#32
  let v398 : BitVec 32 := Scalar.muli v397 c1_i32_408
  let v399 : BitVec 32 := Scalar.addi c0_i32_409 v398
  v399.toNat
def k0_dev28 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_414 : BitVec 32 := 7#32
  let v408 : BitVec 32 := Scalar.addi v2 c7_i32_414
  let c8_i32_415 : BitVec 32 := 8#32
  let v409 : BitVec 32 := Scalar.remsi v408 c8_i32_415
  let c1_i32_423 : BitVec 32 := 1#32
  let v410 : BitVec 32 := Scalar.muli v409 c1_i32_423
  let v411 : BitVec 32 := Scalar.addi c0_i32_424 v410
  v411.toNat
def k0_off4 (d0 : Dev nD) (c1_i32_449 : BitVec 32) : Fin 4 → Nat :=
  let c3_i32_451 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v442 : BitVec 32 := Scalar.addi v2 c1_i32_449
  let c8_i32_450 : BitVec 32 := 8#32
  let v443 : BitVec 32 := Scalar.remsi v442 c8_i32_450
  let c0_i32_462 : BitVec 32 := 0#32
  let c0_i32_463 : BitVec 32 := 0#32
  ![3, v443.toNat, 0, 0]
def k0_dev29 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_449 : BitVec 32 := 1#32
  let v442 : BitVec 32 := Scalar.addi v2 c1_i32_449
  let c8_i32_450 : BitVec 32 := 8#32
  let v443 : BitVec 32 := Scalar.remsi v442 c8_i32_450
  let c1_i32_458 : BitVec 32 := 1#32
  let v444 : BitVec 32 := Scalar.muli v443 c1_i32_458
  let v445 : BitVec 32 := Scalar.addi c0_i32_459 v444
  v445.toNat
def k0_dev30 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_464 : BitVec 32 := 2#32
  let v454 : BitVec 32 := Scalar.addi v2 c2_i32_464
  let c8_i32_465 : BitVec 32 := 8#32
  let v455 : BitVec 32 := Scalar.remsi v454 c8_i32_465
  let c1_i32_473 : BitVec 32 := 1#32
  let v456 : BitVec 32 := Scalar.muli v455 c1_i32_473
  let v457 : BitVec 32 := Scalar.addi c0_i32_474 v456
  v457.toNat
def k0_dev31 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_479 : BitVec 32 := 3#32
  let v466 : BitVec 32 := Scalar.addi v2 c3_i32_479
  let c8_i32_480 : BitVec 32 := 8#32
  let v467 : BitVec 32 := Scalar.remsi v466 c8_i32_480
  let c1_i32_488 : BitVec 32 := 1#32
  let v468 : BitVec 32 := Scalar.muli v467 c1_i32_488
  let v469 : BitVec 32 := Scalar.addi c0_i32_489 v468
  v469.toNat
def k0_dev32 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_494 : BitVec 32 := 4#32
  let v478 : BitVec 32 := Scalar.addi v2 c4_i32_494
  let c8_i32_495 : BitVec 32 := 8#32
  let v479 : BitVec 32 := Scalar.remsi v478 c8_i32_495
  let c1_i32_503 : BitVec 32 := 1#32
  let v480 : BitVec 32 := Scalar.muli v479 c1_i32_503
  let v481 : BitVec 32 := Scalar.addi c0_i32_504 v480
  v481.toNat
def k0_dev33 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_509 : BitVec 32 := 5#32
  let v490 : BitVec 32 := Scalar.addi v2 c5_i32_509
  let c8_i32_510 : BitVec 32 := 8#32
  let v491 : BitVec 32 := Scalar.remsi v490 c8_i32_510
  let c1_i32_518 : BitVec 32 := 1#32
  let v492 : BitVec 32 := Scalar.muli v491 c1_i32_518
  let v493 : BitVec 32 := Scalar.addi c0_i32_519 v492
  v493.toNat
def k0_dev34 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_524 : BitVec 32 := 6#32
  let v502 : BitVec 32 := Scalar.addi v2 c6_i32_524
  let c8_i32_525 : BitVec 32 := 8#32
  let v503 : BitVec 32 := Scalar.remsi v502 c8_i32_525
  let c1_i32_533 : BitVec 32 := 1#32
  let v504 : BitVec 32 := Scalar.muli v503 c1_i32_533
  let v505 : BitVec 32 := Scalar.addi c0_i32_534 v504
  v505.toNat
def k0_dev35 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_539 : BitVec 32 := 7#32
  let v514 : BitVec 32 := Scalar.addi v2 c7_i32_539
  let c8_i32_540 : BitVec 32 := 8#32
  let v515 : BitVec 32 := Scalar.remsi v514 c8_i32_540
  let c1_i32_548 : BitVec 32 := 1#32
  let v516 : BitVec 32 := Scalar.muli v515 c1_i32_548
  let v517 : BitVec 32 := Scalar.addi c0_i32_549 v516
  v517.toNat
def k0_off5 (d0 : Dev nD) : Fin 4 → Nat :=
  let c0_554 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v526 : Index := Scalar.indexCast v2
  let c0_555 : Index := 0#32
  let c0_556 : Index := 0#32
  ![0, v526.toNat, 0, 0]
def k0_off6 (d0 : Dev nD) : Fin 4 → Nat :=
  let c1_759 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v657 : Index := Scalar.indexCast v2
  let c0_760 : Index := 0#32
  let c0_761 : Index := 0#32
  ![1, v657.toNat, 0, 0]
def k0_off7 (d0 : Dev nD) : Fin 4 → Nat :=
  let c2_967 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v788 : Index := Scalar.indexCast v2
  let c0_968 : Index := 0#32
  let c0_969 : Index := 0#32
  ![2, v788.toNat, 0, 0]
def k0_off8 (d0 : Dev nD) : Fin 4 → Nat :=
  let c3_1175 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v919 : Index := Scalar.indexCast v2
  let c0_1176 : Index := 0#32
  let c0_1177 : Index := 0#32
  ![3, v919.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x2 : Shape := ⟨2, ![1024, 2]⟩
abbrev S32x512x1024 : Shape := ⟨3, ![32, 512, 1024]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S1024x512x1024 : Shape := ⟨3, ![1024, 512, 1024]⟩
abbrev S1024x1024 : Shape := ⟨2, ![1024, 1024]⟩

abbrev nBuf : Space → Nat
  | .hbm => 87
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x2, .i32⟩
  | .hbm, ⟨3, _⟩ => ⟨S32x512x1024, .f32⟩
  | .hbm, ⟨4, _⟩ => ⟨S1024x32, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x32, .f32⟩
  | .hbm, ⟨9, _⟩ => ⟨S1024x32, .f32⟩
  | .hbm, ⟨10, _⟩ => ⟨S1024x32, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x32, .f32⟩
  | .hbm, ⟨15, _⟩ => ⟨S1024x32, .f32⟩
  | .hbm, ⟨16, _⟩ => ⟨S1024x1, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x1, .i32⟩
  | .hbm, ⟨37, _⟩ => ⟨S1024x2, .i32⟩
  | .hbm, ⟨38, _⟩ => ⟨S1024, .f32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S1024x1, .i32⟩
  | .hbm, ⟨55, _⟩ => ⟨S1024x2, .i32⟩
  | .hbm, ⟨56, _⟩ => ⟨S1024, .f32⟩
  | .hbm, ⟨57, _⟩ => ⟨S1024, .f32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S1024x512x1024, .f32⟩
  | .hbm, ⟨67, _⟩ => ⟨S1024x1024, .f32⟩
  | .hbm, ⟨68, _⟩ => ⟨S_, .i32⟩
  | .hbm, ⟨69, _⟩ => ⟨S1024, .i32⟩
  | .hbm, ⟨70, _⟩ => ⟨S1024, .i1⟩
  | .hbm, ⟨71, _⟩ => ⟨S_, .i32⟩
  | .hbm, ⟨72, _⟩ => ⟨S1024, .i32⟩
  | .hbm, ⟨73, _⟩ => ⟨S1024, .i32⟩
  | .hbm, ⟨74, _⟩ => ⟨S1024, .i32⟩
  | .hbm, ⟨75, _⟩ => ⟨S1024x1, .i32⟩
  | .hbm, ⟨76, _⟩ => ⟨S1024x512x1024, .f32⟩
  | .hbm, ⟨77, _⟩ => ⟨S1024x1024, .f32⟩
  | .hbm, ⟨78, _⟩ => ⟨S1024, .f32⟩
  | .hbm, ⟨79, _⟩ => ⟨S1024x1, .f32⟩
  | .hbm, ⟨80, _⟩ => ⟨S1024x1024, .f32⟩
  | .hbm, ⟨81, _⟩ => ⟨S1024x1024, .f32⟩
  | .hbm, ⟨82, _⟩ => ⟨S1024, .f32⟩
  | .hbm, ⟨83, _⟩ => ⟨S1024x1, .f32⟩
  | .hbm, ⟨84, _⟩ => ⟨S1024x1024, .f32⟩
  | .hbm, ⟨85, _⟩ => ⟨S1024x1024, .f32⟩
  | .hbm, ⟨86, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Proto.lean ====
/-
The protocol of the expert-parallel kernel, over any float values: the peers of a device, the pieces of the two scratch
buffers, the semaphore cells, what every buffer holds when it is handed over, and the schedule of the rounds library.

Device `c` computes, in four rounds of 256 columns, the partial sums of its four experts over all 1024 rows; row block
`d` of round `r` is the piece `(r, d)` of its first scratch buffer. For `o = 0 … 6` the piece `(r, tgt c o)` is copied
to the slot `(r, o)` of the second scratch buffer of device `tgt c o = c + o + 1`; what lands in slot `(r, o)` of device
`c` comes from `src c o = c - o - 1`.

* The barrier cell of device `c` has seven duties of one unit; duty `o` is paid by `tgt c o`, which hands over its slots
  `(r, o)` of all four rounds: the place `c` copies into.
* The send cell `(r, o)` of device `c` has one duty, the copy's credit, paid by the copy: the piece comes back.
* The receive cell `(r, o)` of device `c` has one duty, the copy's credit, paid by `src c o`'s copy: the slot comes with
  the piece `(r, c)` of `src c o`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds.Family
public import Idealize.ShloMosaic.Lib.Ring
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the copies' own rounds (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peers -/

/-- The device `c`'s copies with number `o` go to. -/
def tgt (c : Dev nD) (o : Fin 7) : Dev nD := ⟨(c.val + o.val + 1) % 8, Nat.mod_lt _ (by decide)⟩
/-- The device the landing with number `o` on `c` comes from. -/
def src (c : Dev nD) (o : Fin 7) : Dev nD := ⟨(c.val + 7 - o.val) % 8, Nat.mod_lt _ (by decide)⟩

theorem src_tgt (c : Dev nD) (o : Fin 7) : src (tgt c o) o = c := by revert c o; decide
theorem tgt_src (c : Dev nD) (o : Fin 7) : tgt (src c o) o = c := by revert c o; decide
theorem tgt_ne (c : Dev nD) (o : Fin 7) : tgt c o ≠ c := by revert c o; decide
theorem tgt_inj (c : Dev nD) (o o' : Fin 7) (h : tgt c o = tgt c o') : o = o' := by revert c o o' h; decide
theorem tgt_inj_dev (c c' : Dev nD) (o : Fin 7) (h : tgt c o = tgt c' o) : c = c' := by revert c c' o h; decide
theorem eq_tgt (c d : Dev nD) (h : d ≠ c) : ∃ o, d = tgt c o := by revert c d h; decide

/-! ## The memrefs -/

abbrev xM : Memref sig .tc .vmem S1024x512 .f32 := Memref.whole cc0_stg0_0
abbrev wM : Memref sig .tc .vmem S512x32 .f32 := Memref.whole cc0_stg1_0
abbrev iM : Memref sig .tc .vmem S1024x2 .i32 := Memref.whole cc0_stg2_0
abbrev eM : Memref sig .tc .vmem S4x512x1024 .f32 := Memref.whole cc0_stg3_0
abbrev oM : Memref sig .tc .vmem S128x1024 .f32 := Memref.whole cc0_stg4_0
abbrev psM : Memref sig .tc .vmem S4x8x128x256 .bf16 := Memref.whole cc0_scratch0
abbrev cmM : Memref sig .tc .vmem S4x7x128x256 .bf16 := Memref.whole cc0_scratch1

theorem ps_inb (r : Fin 4) (d : Fin 8) : ∀ a, (![r.val, d.val, 0, 0] : Fin 4 → Nat) a + S1x1x128x256.size a ≤ S4x8x128x256.size a := by
  revert r d; decide
theorem cm_inb (r : Fin 4) (o : Fin 7) : ∀ a, (![r.val, o.val, 0, 0] : Fin 4 → Nat) a + S1x1x128x256.size a ≤ S4x7x128x256.size a := by
  revert r o; decide
theorem sem_inb (r : Fin 4) (o : Fin 7) : ∀ a, (![r.val, o.val] : Fin 2 → Nat) a + S1x1.size a ≤ S4x7.size a := by
  revert r o; decide
theorem slab_inb (r : Fin 4) : ∀ a, (![r.val, 0, 0, 0] : Fin 4 → Nat) a + S1x8x128x256.size a ≤ S4x8x128x256.size a := by
  revert r; decide

abbrev psR (r : Fin 4) (d : Fin 8) : Rect S4x8x128x256 := Rect.unit (s := S4x8x128x256) ![r.val, d.val, 0, 0] S1x1x128x256.size (ps_inb r d)
abbrev cmR (r : Fin 4) (o : Fin 7) : Rect S4x7x128x256 := Rect.unit (s := S4x7x128x256) ![r.val, o.val, 0, 0] S1x1x128x256.size (cm_inb r o)
abbrev slabR (r : Fin 4) : Rect S4x8x128x256 := Rect.unit (s := S4x8x128x256) ![r.val, 0, 0, 0] S1x8x128x256.size (slab_inb r)

/-- Piece `(r, d)` of the first scratch buffer, -/
abbrev psSl (r : Fin 4) (d : Fin 8) : Memref sig .tc .vmem S128x256 .bf16 :=
  ((psM.slice (psR r d) (fun _ => rfl)).squeeze S128x256 squeezes_S1x1x128x256_S128x256)
/-- slot `(r, o)` of the second. -/
abbrev cmSl (r : Fin 4) (o : Fin 7) : Memref sig .tc .vmem S128x256 .bf16 :=
  ((cmM.slice (cmR r o) (fun _ => rfl)).squeeze S128x256 squeezes_S1x1x128x256_S128x256)

theorem psSl_of_off (r : Fin 4) (d : Fin 8) (off : Fin 4 → Nat) (inb) (h : off = ![r.val, d.val, 0, 0]) :
    ((psM.slice (Rect.unit (s := S4x8x128x256) off S1x1x128x256.size inb) (fun _ => rfl)).squeeze S128x256 squeezes_S1x1x128x256_S128x256) = psSl r d := by
  subst h; rfl

theorem off1_eq (c : Dev nD) (o : Fin 7) : k0_off1 c (BitVec.ofNat 32 (1 + o.val)) = ![(0 : Fin 4).val, (tgt c o).val, 0, 0] := by
  revert c o; decide +kernel
theorem off2_eq (c : Dev nD) (o : Fin 7) : k0_off2 c (BitVec.ofNat 32 (1 + o.val)) = ![(1 : Fin 4).val, (tgt c o).val, 0, 0] := by
  revert c o; decide +kernel
theorem off3_eq (c : Dev nD) (o : Fin 7) : k0_off3 c (BitVec.ofNat 32 (1 + o.val)) = ![(2 : Fin 4).val, (tgt c o).val, 0, 0] := by
  revert c o; decide +kernel
theorem off4_eq (c : Dev nD) (o : Fin 7) : k0_off4 c (BitVec.ofNat 32 (1 + o.val)) = ![(3 : Fin 4).val, (tgt c o).val, 0, 0] := by
  revert c o; decide +kernel
theorem off5_eq (c : Dev nD) : k0_off5 c = ![(0 : Fin 4).val, c.val, 0, 0] := by revert c; decide +kernel
theorem off6_eq (c : Dev nD) : k0_off6 c = ![(1 : Fin 4).val, c.val, 0, 0] := by revert c; decide +kernel
theorem off7_eq (c : Dev nD) : k0_off7 c = ![(2 : Fin 4).val, c.val, 0, 0] := by revert c; decide +kernel
theorem off8_eq (c : Dev nD) : k0_off8 c = ![(3 : Fin 4).val, c.val, 0, 0] := by revert c; decide +kernel

/-! ## The element sets -/

def psBlk (r : Fin 4) (d : Fin 8) : Finset S4x8x128x256.Idx := Finset.univ.filter fun i => (i 0).val = r.val ∧ (i 1).val = d.val
def slabBlk (r : Fin 4) : Finset S4x8x128x256.Idx := Finset.univ.filter fun i => (i 0).val = r.val
def cmBlk (r : Fin 4) (o : Fin 7) : Finset S4x7x128x256.Idx := Finset.univ.filter fun i => (i 0).val = r.val ∧ (i 1).val = o.val

theorem psR_set (r : Fin 4) (d : Fin 8) : (psR r d).set = psBlk r d := by
  ext i
  rw [Rect.mem_set_unit, psBlk, Finset.mem_filter]
  have h2 : (i 2).val < 128 := (i 2).isLt
  have h3 : (i 3).val < 256 := (i 3).isLt
  constructor
  · intro h
    have h0 := h 0; have h1 := h 1
    have e0 : r.val ≤ (i 0).val ∧ (i 0).val < r.val + 1 := h0
    have e1 : d.val ≤ (i 1).val ∧ (i 1).val < d.val + 1 := h1
    exact ⟨Finset.mem_univ _, by omega, by omega⟩
  · rintro ⟨-, e0, e1⟩ a
    fin_cases a
    · show r.val ≤ (i 0).val ∧ (i 0).val < r.val + 1; omega
    · show d.val ≤ (i 1).val ∧ (i 1).val < d.val + 1; omega
    · show 0 ≤ (i 2).val ∧ (i 2).val < 0 + 128; omega
    · show 0 ≤ (i 3).val ∧ (i 3).val < 0 + 256; omega

theorem cmR_set (r : Fin 4) (o : Fin 7) : (cmR r o).set = cmBlk r o := by
  ext i
  rw [Rect.mem_set_unit, cmBlk, Finset.mem_filter]
  have h2 : (i 2).val < 128 := (i 2).isLt
  have h3 : (i 3).val < 256 := (i 3).isLt
  constructor
  · intro h
    have e0 : r.val ≤ (i 0).val ∧ (i 0).val < r.val + 1 := h 0
    have e1 : o.val ≤ (i 1).val ∧ (i 1).val < o.val + 1 := h 1
    exact ⟨Finset.mem_univ _, by omega, by omega⟩
  · rintro ⟨-, e0, e1⟩ a
    fin_cases a
    · show r.val ≤ (i 0).val ∧ (i 0).val < r.val + 1; omega
    · show o.val ≤ (i 1).val ∧ (i 1).val < o.val + 1; omega
    · show 0 ≤ (i 2).val ∧ (i 2).val < 0 + 128; omega
    · show 0 ≤ (i 3).val ∧ (i 3).val < 0 + 256; omega

theorem slabR_set (r : Fin 4) : (slabR r).set = slabBlk r := by
  ext i
  rw [Rect.mem_set_unit, slabBlk, Finset.mem_filter]
  have h1 : (i 1).val < 8 := (i 1).isLt
  have h2 : (i 2).val < 128 := (i 2).isLt
  have h3 : (i 3).val < 256 := (i 3).isLt
  constructor
  · intro h
    have e0 : r.val ≤ (i 0).val ∧ (i 0).val < r.val + 1 := h 0
    exact ⟨Finset.mem_univ _, by omega⟩
  · rintro ⟨-, e0⟩ a
    fin_cases a
    · show r.val ≤ (i 0).val ∧ (i 0).val < r.val + 1; omega
    · show 0 ≤ (i 1).val ∧ (i 1).val < 0 + 8; omega
    · show 0 ≤ (i 2).val ∧ (i 2).val < 0 + 128; omega
    · show 0 ≤ (i 3).val ∧ (i 3).val < 0 + 256; omega

theorem psSl_set (r : Fin 4) (d : Fin 8) : (psSl r d).view.set = psBlk r d := by
  show (((View.whole cc0_scratch0).slice (psR r d)).reshape _ _).set = _
  rw [View.set_reshape, View.set_slice_whole, psR_set]
theorem cmSl_set (r : Fin 4) (o : Fin 7) : (cmSl r o).view.set = cmBlk r o := by
  show (((View.whole cc0_scratch1).slice (cmR r o)).reshape _ _).set = _
  rw [View.set_reshape, View.set_slice_whole, cmR_set]

theorem slabBlk_disj (r r' : Fin 4) (h : r ≠ r') : Disjoint (slabBlk r) (slabBlk r') := by
  rw [Finset.disjoint_left]
  intro i hi hi'
  have := (Finset.mem_filter.mp hi).2; have := (Finset.mem_filter.mp hi').2
  exact h (Fin.ext (by omega))
theorem slabBlk_cover : Finset.univ.biUnion slabBlk = (Finset.univ : Finset S4x8x128x256.Idx) := by
  ext i; simp only [Finset.mem_biUnion, Finset.mem_univ, true_and, iff_true]
  exact ⟨⟨(i 0).val, (i 0).isLt⟩, Finset.mem_filter.mpr ⟨Finset.mem_univ _, rfl⟩⟩
theorem psBlk_disj (r : Fin 4) (d d' : Fin 8) (h : d ≠ d') : Disjoint (psBlk r d) (psBlk r d') := by
  rw [Finset.disjoint_left]
  intro i hi hi'
  have := (Finset.mem_filter.mp hi).2; have := (Finset.mem_filter.mp hi').2
  exact h (Fin.ext (by omega))
theorem psBlk_cover (r : Fin 4) : Finset.univ.biUnion (psBlk r) = slabBlk r := by
  ext i; simp only [Finset.mem_biUnion, Finset.mem_univ, true_and]
  constructor
  · rintro ⟨d, hd⟩; exact Finset.mem_filter.mpr ⟨Finset.mem_univ _, (Finset.mem_filter.mp hd).2.1⟩
  · intro h; exact ⟨⟨(i 1).val, (i 1).isLt⟩, Finset.mem_filter.mpr ⟨Finset.mem_univ _, (Finset.mem_filter.mp h).2, rfl⟩⟩
theorem cmBlk_disj (b b' : Fin 4 × Fin 7) (h : b ≠ b') : Disjoint (cmBlk b.1 b.2) (cmBlk b'.1 b'.2) := by
  rw [Finset.disjoint_left]
  intro i hi hi'
  have := (Finset.mem_filter.mp hi).2; have := (Finset.mem_filter.mp hi').2
  exact h (Prod.ext (Fin.ext (by omega)) (Fin.ext (by omega)))
theorem cmBlk_cover : Finset.univ.biUnion (fun b : Fin 4 × Fin 7 => cmBlk b.1 b.2) = (Finset.univ : Finset S4x7x128x256.Idx) := by
  ext i; simp only [Finset.mem_biUnion, Finset.mem_univ, true_and, iff_true]
  exact ⟨(⟨(i 0).val, (i 0).isLt⟩, ⟨(i 1).val, (i 1).isLt⟩), Finset.mem_filter.mpr ⟨Finset.mem_univ _, rfl, rfl⟩⟩

/-! ## The cells -/

/-- The runtime's barrier semaphore of collective id 0; the two families of copy semaphores. -/
abbrev barS : Sem sig := (SemArray.scalar (sig.barrier 0 rfl) : Sems sig S_).sem
abbrev sndS (r : Fin 4) (o : Fin 7) : DmaSem sig :=
  ((cc0_scratch2.slice (Rect.unit (s := S4x7) ![r.val, o.val] S1x1.size (sem_inb r o))).squeeze S_ squeezes_S1x1_S_).sem
abbrev rcvS (r : Fin 4) (o : Fin 7) : DmaSem sig :=
  ((cc0_scratch3.slice (Rect.unit (s := S4x7) ![r.val, o.val] S1x1.size (sem_inb r o))).squeeze S_ squeezes_S1x1_S_).sem

theorem sndS_val (r : Fin 4) (o : Fin 7) : (sndS r o).val = 5 + 7 * r.val + o.val := by revert r o; decide +kernel
theorem rcvS_val (r : Fin 4) (o : Fin 7) : (rcvS r o).val = 33 + 7 * r.val + o.val := by revert r o; decide +kernel

/-- The kernel's own semaphores: `(false, r, o)` the send one, `(true, r, o)` the receive one. -/
abbrev OK : Type := Bool × Fin 4 × Fin 7
def osem : OK → SemLoc sig := fun k => match k.1 with
  | false => .dma (sndS k.2.1 k.2.2)
  | true => .dma (rcvS k.2.1 k.2.2)
/-- All the protocol's: the barrier besides. -/
abbrev CK : Type := Option OK
def csem : CK → SemLoc sig := fun k => match k with
  | none => .reg barS
  | some k => osem k
abbrev kcell (ck : Dev nD × CK) : GSem nD τ sig := ((ck.1 : Thread nD τ), csem ck.2)

abbrev barCell (c : Dev nD) : GSem nD τ sig := ((c : Thread nD τ), .reg barS)
abbrev sendCell (c : Dev nD) (r : Fin 4) (o : Fin 7) : GSem nD τ sig := ((c : Thread nD τ), .dma (sndS r o))
abbrev recvCell (c : Dev nD) (r : Fin 4) (o : Fin 7) : GSem nD τ sig := ((c : Thread nD τ), .dma (rcvS r o))

theorem osem_inj : Function.Injective osem := by
  rintro ⟨b, r, o⟩ ⟨b', r', o'⟩ h
  have hv : ∀ (q q' : DmaSem sig), (SemLoc.dma q : SemLoc sig) = .dma q' → q.val = q'.val := by
    intro q q' e; cases e; rfl
  have hr := r.isLt; have hr' := r'.isLt; have ho := o.isLt; have ho' := o'.isLt
  cases b <;> cases b' <;> have e := hv _ _ h <;> simp only [sndS_val, rcvS_val] at e
  · have h1 : r = r' := Fin.ext (by omega)
    have h2 : o = o' := Fin.ext (by omega)
    rw [h1, h2]
  · omega
  · omega
  · have h1 : r = r' := Fin.ext (by omega)
    have h2 : o = o' := Fin.ext (by omega)
    rw [h1, h2]
theorem osem_ne_bar (k : OK) : osem k ≠ .reg barS := by
  rcases k with ⟨b, r, o⟩; cases b <;> exact fun h => by cases h
theorem csem_inj : Function.Injective csem := by
  rintro (_ | k) (_ | k') h
  · rfl
  · exact absurd h.symm (osem_ne_bar k')
  · exact absurd h (osem_ne_bar k)
  · exact congrArg some (osem_inj h)

/-- One copy's credit. -/
abbrev N : ℕ := (cmSl 0 0).view.dmaCredit
theorem N_pos : 0 < N := View.dmaCredit_pos _ (by decide)
theorem cm_credit (r : Fin 4) (o : Fin 7) : (cmSl r o).view.dmaCredit = N := rfl
theorem ps_credit (r : Fin 4) (d : Fin 8) : (psSl r d).view.dmaCredit = N := rfl

end Cert.MoeProof

end
-- ==== Proof.Vals.lean ====
/-
What every buffer of a device holds, as values of the arrays at launch, and the schedule of the copies' rounds: the
duties of every cell, their amounts and what each hands over.
-/
module

public import proofs.«01_k».proof.Proof.Proto

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- The four inputs as device `c` stages them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def estg (c : Dev nD) : (cc0_stg3_0 : Ref sig .tc).ty.Contents (Elt F) :=
  (win0_3.blk (0 : Fin 1)).view.read (Elt F) ((s₀ m ρ).mem ((c : Thread nD τ).loc main_arg3))

/-- What the body loads of them. -/
abbrev ldX (c : Dev nD) : Vec F S1024x512 .f32 :=
  xM.view.readAt (Elt F) (Rect.unit (s := S1024x512) ![0, 0] S1024x512.size inb_S1024x512_S1024x512_0_0).toLoadRect (xstg m ρ c)
abbrev ldW (c : Dev nD) : Vec F S512x32 .f32 :=
  wM.view.readAt (Elt F) (Rect.unit (s := S512x32) ![0, 0] S512x32.size inb_S512x32_S512x32_0_0).toLoadRect (wstg m ρ c)
abbrev ldI0 (c : Dev nD) : Vec F S1024x1 .i32 :=
  iM.view.readAt (Elt F) (Rect.unit (s := S1024x2) ![0, 0] S1024x1.size inb_S1024x2_S1024x1_0_0).toLoadRect (istg m ρ c)
abbrev ldI1 (c : Dev nD) : Vec F S1024x1 .i32 :=
  iM.view.readAt (Elt F) (Rect.unit (s := S1024x2) ![0, 1] S1024x1.size inb_S1024x2_S1024x1_0_1).toLoadRect (istg m ρ c)

theorem e_inb (j r : Fin 4) : ∀ a, (![j.val, 0, 256 * r.val] : Fin 3 → Nat) a + S1x512x256.size a ≤ S4x512x1024.size a := by
  revert j r; decide
/-- Columns `256 r …` of the device's expert `j`. -/
abbrev ldE (c : Dev nD) (r j : Fin 4) : Vec F S1x512x256 .f32 :=
  eM.view.readAt (Elt F) (Rect.unit (s := S4x512x1024) ![j.val, 0, 256 * r.val] S1x512x256.size (e_inb j r)).toLoadRect (estg m ρ c)

/-- The device's position on the mesh as the body computes it. -/
abbrev qw (c : Dev nD) : BitVec 32 := Scalar.remsi (Scalar.divsi (Dev.word c) 1#32) 8#32
abbrev iotaV : IVec S1024x32 32 := iota .tc S1024x32 32 [1] iota_S1024x32_d1_w32
abbrev zc : F .f32 := Scalar.ofBits .f32 0x00000000#32

/-- The rows scaled by the gate of expert `j` of the device. -/
def xg0 (c : Dev nD) : FVec F S1024x512 .f32 :=
  k0_pay6 (qw c) (k0_pay2 (ldX m ρ c)) iotaV (k0_pay3 (ldX m ρ c) (ldW m ρ c) (ldI0 m ρ c) (ldI1 m ρ c)) (k0_pay4 (ldX m ρ c) (ldW m ρ c) (ldI0 m ρ c) (ldI1 m ρ c))
def xg1 (c : Dev nD) : FVec F S1024x512 .f32 :=
  k0_pay7 (qw c) (k0_pay2 (ldX m ρ c)) iotaV (k0_pay3 (ldX m ρ c) (ldW m ρ c) (ldI0 m ρ c) (ldI1 m ρ c)) (k0_pay4 (ldX m ρ c) (ldW m ρ c) (ldI0 m ρ c) (ldI1 m ρ c))
def xg2 (c : Dev nD) : FVec F S1024x512 .f32 :=
  k0_pay8 (qw c) (k0_pay2 (ldX m ρ c)) iotaV (k0_pay3 (ldX m ρ c) (ldW m ρ c) (ldI0 m ρ c) (ldI1 m ρ c)) (k0_pay4 (ldX m ρ c) (ldW m ρ c) (ldI0 m ρ c) (ldI1 m ρ c))
def xg3 (c : Dev nD) : FVec F S1024x512 .f32 :=
  k0_pay9 (qw c) (k0_pay2 (ldX m ρ c)) iotaV (k0_pay3 (ldX m ρ c) (ldW m ρ c) (ldI0 m ρ c) (ldI1 m ρ c)) (k0_pay4 (ldX m ρ c) (ldW m ρ c) (ldI0 m ρ c) (ldI1 m ρ c))

/-- The partial sums of round `r`: what the body stores in slab `r`. -/
def slabV (c : Dev nD) (r : Fin 4) : Vec F S1x8x128x256 .bf16 :=
  k0_pay10 (xg0 m ρ c) (xg1 m ρ c) (xg2 m ρ c) (xg3 m ρ c) zc (ldE m ρ c r 0) (ldE m ρ c r 1) (ldE m ρ c r 2) (ldE m ρ c r 3)

/-- The index of a slab's element within the slab. -/
def inSlab (i : S4x8x128x256.Idx) : S1x8x128x256.Idx := fun a => match a with
  | 0 => (⟨0, Nat.one_pos⟩ : Fin 1)
  | 1 => i 1
  | 2 => i 2
  | 3 => i 3

/-- The first scratch buffer after all four rounds' stores. -/
def psV (c : Dev nD) : Buf (Elt F) ((c : Thread nD τ).loc cc0_scratch0) :=
  fun i : S4x8x128x256.Idx => slabV m ρ c (i 0) (inSlab i)

/-- The index, in its sender's first buffer, of the element that lands at index `i` of device `c`'s second buffer. -/
def fromPs (c : Dev nD) (i : S4x7x128x256.Idx) : S4x8x128x256.Idx := fun a => match a with
  | 0 => i 0
  | 1 => (c : Fin 8)
  | 2 => i 2
  | 3 => i 3

/-- The second scratch buffer after all landings. -/
def cmV (c : Dev nD) : Buf (Elt F) ((c : Thread nD τ).loc cc0_scratch1) :=
  fun i : S4x7x128x256.Idx => psV m ρ (src c (i 1)) (fromPs c i)

/-- The own piece of round `r` and the landing number `o` of it, as the body loads them; -/
abbrev ownV (c : Dev nD) (r : Fin 4) : Vec F S1x1x128x256 .bf16 := psM.view.readAt (Elt F) (psR r c).toLoadRect (psV m ρ c)
abbrev gotV (c : Dev nD) (r : Fin 4) (o : Fin 7) : Vec F S1x1x128x256 .bf16 := cmM.view.readAt (Elt F) (cmR r o).toLoadRect (cmV m ρ c)
/-- the running sum after the own piece; after landing `o`. -/
def sumV (c : Dev nD) (r : Fin 4) : ℕ → FVec F S128x256 .f32
  | 0 => k0_pay20 (ownV m ρ c r)
  | n + 1 => k0_pay1 (sumV c r n) (gotV m ρ c r (Fin.ofNat 7 n))

/-- The index of an element of the result within its round's columns. -/
def inRound (i : S128x1024.Idx) : S128x256.Idx := fun a => match a with
  | 0 => i 0
  | 1 => (⟨(i 1).val % 256, Nat.mod_lt _ (by decide)⟩ : Fin 256)

/-- The result block of device `c`. -/
def outV (c : Dev nD) : (cc0_stg4_0 : Ref sig .tc).ty.Contents (Elt F) :=
  fun i : S128x1024.Idx => sumV m ρ c (Fin.ofNat 4 ((i 1).val / 256)) 7 (inRound i)

/-! ## Points-to of the pieces and slots -/

def psPts (c : Dev nD) (r : Fin 4) (d : Fin 8) (f : Buf (Elt F) ((c : Thread nD τ).loc cc0_scratch0)) : sProp 𝕄 :=
  (psSl r d).view.loc (c : Thread nD τ) ↦[(psSl r d).view.set]{fullShare} f
def cmPts (c : Dev nD) (r : Fin 4) (o : Fin 7) (f : Buf (Elt F) ((c : Thread nD τ).loc cc0_scratch1)) : sProp 𝕄 :=
  (cmSl r o).view.loc (c : Thread nD τ) ↦[(cmSl r o).view.set]{fullShare} f
def slabPts (c : Dev nD) (r : Fin 4) (f : Buf (Elt F) ((c : Thread nD τ).loc cc0_scratch0)) : sProp 𝕄 :=
  ((c : Thread nD τ).loc cc0_scratch0) ↦[slabBlk r]{fullShare} f

omit [FloatOps F] in
theorem psPts_eq (c : Dev nD) (r : Fin 4) (d : Fin 8) (f) :
    psPts (F := F) c r d f = (((c : Thread nD τ).loc cc0_scratch0) ↦[psBlk r d]{fullShare} f : sProp 𝕄) := by
  unfold psPts; rw [psSl_set]
omit [FloatOps F] in
theorem cmPts_eq (c : Dev nD) (r : Fin 4) (o : Fin 7) (f) :
    cmPts (F := F) c r o f = (((c : Thread nD τ).loc cc0_scratch1) ↦[cmBlk r o]{fullShare} f : sProp 𝕄) := by
  unfold cmPts; rw [cmSl_set]

omit [FloatOps F] in
instance psPts_storable (c : Dev nD) (r d f) : BI.Storable (upEmb : UEmb _ 𝕄) (psPts (F := F) c r d f) := by unfold psPts; infer_instance
omit [FloatOps F] in
instance cmPts_storable (c : Dev nD) (r o f) : BI.Storable (upEmb : UEmb _ 𝕄) (cmPts (F := F) c r o f) := by unfold cmPts; infer_instance

omit [FloatOps F] in
/-- The second buffer held whole is its slots; -/
theorem cm_split (c : Dev nD) (f) :
    (((c : Thread nD τ).loc cc0_scratch1) ↦{fullShare} f : sProp 𝕄)
      = bigSep Finset.univ fun r : Fin 4 => bigSep Finset.univ fun o : Fin 7 => cmPts c r o f := by
  rw [Ring.pointsTo_blocks (fun b : Fin 4 × Fin 7 => cmBlk b.1 b.2) (fun b b' h => cmBlk_disj b b' h) cmBlk_cover f, bigSep_univ_prod]
  simp only [cmPts_eq]
omit [FloatOps F] in
/-- the first held whole is its slabs, -/
theorem ps_split (c : Dev nD) (f) :
    (((c : Thread nD τ).loc cc0_scratch0) ↦{fullShare} f : sProp 𝕄) = bigSep Finset.univ fun r : Fin 4 => slabPts c r f := by
  unfold slabPts
  rw [Ring.pointsTo_blocks slabBlk slabBlk_disj slabBlk_cover f]
omit [FloatOps F] in
/-- each slab its pieces. -/
theorem slab_split (c : Dev nD) (r : Fin 4) (f) : slabPts (F := F) c r f = bigSep Finset.univ fun d : Fin 8 => psPts c r d f := by
  unfold slabPts
  rw [Ring.pointsTo_sub_blocks (psBlk r) (fun b b' h => psBlk_disj r b b' h) (slabBlk r) (psBlk_cover r) f]
  simp only [psPts_eq]

/-! ## What a landing, a slab's store and a result's store leave -/

/-- The piece `(r, tgt c o)` of `c` landed in the slot `(r, o)` of `tgt c o`. -/
theorem land_eq (c : Dev nD) (r : Fin 4) (o : Fin 7) (fd : Buf (Elt F) ((cmSl r o).view.loc (tgt c o : Thread nD τ))) :
    ∀ i ∈ (cmSl r o).view.set, (cmSl r o).view.write (Elt F) fd ((psSl r (tgt c o)).view.read (Elt F) (psV m ρ c)) Finset.univ i = cmV m ρ (tgt c o) i := by
  intro i hi
  obtain ⟨x, -, rfl⟩ := Finset.mem_map.mp hi
  rw [View.write_emb_of_mem _ _ (Finset.mem_univ x)]
  show psV m ρ c ((psSl r (tgt c o)).view.emb x) = cmV m ρ (tgt c o) ((cmSl r o).view.emb x)
  generalize hy : Shape.reshapeEquiv (s := S1x1x128x256) (s' := S128x256) rfl x = y
  have h1 : (psSl r (tgt c o)).view.emb x = (psR r (tgt c o)).emb y := by rw [← hy]; rfl
  have h2 : (cmSl r o).view.emb x = (cmR r o).emb y := by rw [← hy]; rfl
  rw [h1, h2]
  have y0 : (y 0).val = 0 := by have : (y 0).val < 1 := (y 0).isLt; omega
  have y1 : (y 1).val = 0 := by have : (y 1).val < 1 := (y 1).isLt; omega
  have ho : ((cmR r o).emb y : S4x7x128x256.Idx) 1 = o := Fin.ext (by show o.val + 1 * (y 1).val = o.val; omega)
  unfold cmV
  show psV m ρ c _ = psV m ρ (src (tgt c o) (((cmR r o).emb y : S4x7x128x256.Idx) 1)) _
  rw [ho, src_tgt]
  congr 1
  funext a
  fin_cases a
  · exact Fin.ext (by show r.val + 1 * (y 0).val = r.val + 1 * (y 0).val; rfl)
  · exact Fin.ext (by show (tgt c o).val + 1 * (y 1).val = (tgt c o).val; omega)
  · rfl
  · rfl

theorem slab_write (c : Dev nD) (r : Fin 4) (f : Buf (Elt F) ((c : Thread nD τ).loc cc0_scratch0)) :
    ∀ i ∈ slabBlk r, (psM.access (slabR r) : View sig .tc _ _ _).write (Elt F) f (slabV m ρ c r) Finset.univ i = psV m ρ c i := by
  intro i hi
  have key : ∀ (g : Fin 4 → S1x8x128x256.Idx → Elt F .bf16) (y : S1x8x128x256.Idx),
      g r y = g (((slabR r).emb y : S4x8x128x256.Idx) 0) (inSlab ((slabR r).emb y)) := by
    intro g y
    have y0 : (y 0).val = 0 := by have : (y 0).val < 1 := (y 0).isLt; omega
    have h0 : ((slabR r).emb y : S4x8x128x256.Idx) 0 = r := Fin.ext (by show r.val + 1 * (y 0).val = r.val; omega)
    rw [h0]
    congr 1
    funext a
    fin_cases a
    · exact Fin.ext y0
    · exact Fin.ext (by show (y 1).val = 0 + 1 * (y 1).val; omega)
    · exact Fin.ext (by show (y 2).val = 0 + 1 * (y 2).val; omega)
    · exact Fin.ext (by show (y 3).val = 0 + 1 * (y 3).val; omega)
  have hi' : i ∈ (psM.access (slabR r) : View sig .tc _ _ _).set := by
    rw [show (psM.access (slabR r) : View sig .tc _ _ _).set = (slabR r).set from View.set_slice_whole _ _, slabR_set]; exact hi
  obtain ⟨y, -, rfl⟩ := Finset.mem_map.mp hi'
  rw [View.write_emb_of_mem _ _ (Finset.mem_univ y)]
  exact key (slabV m ρ c) y

theorem out_inb (r : Fin 4) : ∀ a, (![0, 256 * r.val] : Fin 2 → Nat) a + S128x256.size a ≤ S128x1024.size a := by revert r; decide
abbrev outR (r : Fin 4) : Rect S128x1024 := Rect.unit (s := S128x1024) ![0, 256 * r.val] S128x256.size (out_inb r)

/-- The result's columns below `256 n` are done. -/
def OutDone (c : Dev nD) (n : ℕ) (f : Buf (Elt F) ((c : Thread nD τ).loc cc0_stg4_0)) : Prop :=
  ∀ i : S128x1024.Idx, (i 1).val < 256 * n → f i = outV m ρ c i

theorem out_write (c : Dev nD) (r : Fin 4) (f : Buf (Elt F) ((c : Thread nD τ).loc cc0_stg4_0)) (h : OutDone m ρ c r.val f) :
    OutDone m ρ c (r.val + 1) ((oM.access (outR r) : View sig .tc _ _ _).write (Elt F) f (sumV m ρ c r 7) Finset.univ) := by
  intro i hi
  by_cases hlt : (i 1).val < 256 * r.val
  · rw [View.write_of_not_mem]
    · exact h i hlt
    · intro hm
      have hm' : i ∈ (outR r).set := by
        have := hm
        rwa [View.setOn_univ, View.set_slice_whole] at this
      have := (Rect.mem_set_unit.mp hm' 1).1
      have h' : 256 * r.val ≤ (i 1).val := this
      omega
  · have hr := r.isLt
    have hm : i ∈ (outR r).set := Rect.mem_set_unit.mpr fun a => by
      fin_cases a
      · exact ⟨Nat.zero_le _, by have : (i 0).val < 128 := (i 0).isLt; show (i 0).val < 0 + 128; omega⟩
      · show 256 * r.val ≤ (i 1).val ∧ (i 1).val < 256 * r.val + 256; omega
    obtain ⟨y, rfl⟩ := (outR r).exists_idx_of_mem hm
    have e : (oM.access (outR r) : View sig .tc _ _ _).write (Elt F) f (sumV m ρ c r 7) Finset.univ ((oM.access (outR r) : View sig .tc _ _ _).emb y) = sumV m ρ c r 7 y := by
      rw [View.write_emb_of_mem _ _ (Finset.mem_univ y)]; rfl
    refine Eq.trans e ?_
    have y1 : (y 1).val < 256 := (y 1).isLt
    have e1 : ((((outR r).idx y : S128x1024.Idx) 1).val) = 256 * r.val + 1 * (y 1).val := rfl
    have h0 : Fin.ofNat 4 ((((outR r).idx y : S128x1024.Idx) 1).val / 256) = r := Fin.ext (by
      rw [e1]; show (256 * r.val + 1 * (y 1).val) / 256 % 4 = r.val; omega)
    unfold outV
    show _ = sumV m ρ c (Fin.ofNat 4 ((((outR r).idx y : S128x1024.Idx) 1).val / 256)) 7 _
    rw [h0]
    congr 1
    funext a
    fin_cases a
    · exact Fin.ext (by show (y 0).val = 0 + 1 * (y 0).val; omega)
    · exact Fin.ext (by show (y 1).val = (256 * r.val + 1 * (y 1).val) % 256; omega)

theorem out_done_all (c : Dev nD) (f : Buf (Elt F) ((c : Thread nD τ).loc cc0_stg4_0)) (h : OutDone m ρ c 4 f) : f = outV m ρ c :=
  funext fun i => h i (by have : (i 1).val < 1024 := ((i : S128x1024.Idx) 1).isLt; omega)

end Cert.MoeProof

end
-- ==== Proof.Sched.lean ====
/-
The schedule of the copies' rounds, what each device owes, the levels, and the state of a device's body between two of
its operations, as a function of how many rounds it has stored, copies started, sends and receives awaited and blocks
of columns of the result written.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

def barPay (c : Dev nD) (o : Fin 7) : sProp 𝕄 := iprop(∃ f, bigSep Finset.univ fun r : Fin 4 => cmPts (F := F) (tgt c o) r o f)
def sendPay (c : Dev nD) (r : Fin 4) (o : Fin 7) : sProp 𝕄 := psPts c r (tgt c o) (psV m ρ c)
def recvPay (c : Dev nD) (r : Fin 4) (o : Fin 7) : sProp 𝕄 := cmPts c r o (cmV m ρ c)

/-- The duty a copy semaphore's one round has, by the semaphore's number. -/
def xferPay (c : Dev nD) (q : ℕ) : sProp 𝕄 :=
  if q < 33 then sendPay m ρ c (Fin.ofNat 4 ((q - 5) / 7)) (Fin.ofNat 7 ((q - 5) % 7))
  else recvPay m ρ c (Fin.ofNat 4 ((q - 33) / 7)) (Fin.ofNat 7 ((q - 33) % 7))

def Rd : Rounds.Schedule (GSem nD τ sig) (Fin 7) 𝕄 where
  duties g r := if r = 0 then (match g.2 with | .reg _ => Finset.univ | .dma _ => {0}) else ∅
  unitless _ := False
  amount g _ _ := match g.2 with | .reg _ => 1 | .dma _ => N
  payload g _ d := match g.2 with | .reg _ => barPay g.1.1 d | .dma q => xferPay m ρ g.1.1 q.val
  amount_pos g _ _ _ := by
    rcases g with ⟨t, _ | _⟩
    · exact Nat.one_pos
    · exact N_pos

instance Rd_payload_storable (g : GSem nD τ sig) (r : ℕ) (d : Fin 7) :
    BI.Storable (upEmb : UEmb _ 𝕄) ((Rd (F := F) m ρ).payload g r d) := by
  rcases g with ⟨t, q | q⟩
  · show BI.Storable upEmb (barPay t.1 d)
    unfold barPay; infer_instance
  · show BI.Storable upEmb (xferPay m ρ t.1 q.val)
    unfold xferPay sendPay recvPay; split <;> infer_instance

section Sched
variable (c : Dev nD) (r : Fin 4) (o : Fin 7)

theorem duties_bar : (Rd (F := F) m ρ).duties (barCell c) 0 = Finset.univ := rfl
theorem duties_send : (Rd (F := F) m ρ).duties (sendCell c r o) 0 = {0} := rfl
theorem duties_recv : (Rd (F := F) m ρ).duties (recvCell c r o) 0 = {0} := rfl
theorem duties_later (g : GSem nD τ sig) : ∀ r, 1 ≤ r → (Rd (F := F) m ρ).duties g r = ∅ :=
  fun r hr => by dsimp only [Rd]; rw [if_neg (by omega)]

theorem expect_bar : (Rd (F := F) m ρ).expect (barCell c) 0 = 7 := by
  unfold Schedule.expect Schedule.amountOf
  rw [duties_bar]
  show (∑ _d : Fin 7, 1) = 7
  simp
theorem expect_send : (Rd (F := F) m ρ).expect (sendCell c r o) 0 = N := by
  unfold Schedule.expect Schedule.amountOf; rw [duties_send, Finset.sum_singleton]; rfl
theorem expect_recv : (Rd (F := F) m ρ).expect (recvCell c r o) 0 = N := by
  unfold Schedule.expect Schedule.amountOf; rw [duties_recv, Finset.sum_singleton]; rfl

theorem payload_send (d : Fin 7) : (Rd (F := F) m ρ).payload (sendCell c r o) 0 d = sendPay m ρ c r o := by
  show xferPay m ρ c (sndS r o).val = _
  have hr := r.isLt; have ho := o.isLt
  unfold xferPay
  rw [sndS_val, if_pos (by omega)]
  congr 1
  · exact Fin.ext (by show (5 + 7 * r.val + o.val - 5) / 7 % 4 = r.val; omega)
  · exact Fin.ext (by show (5 + 7 * r.val + o.val - 5) % 7 % 7 = o.val; omega)
theorem payload_recv (d : Fin 7) : (Rd (F := F) m ρ).payload (recvCell c r o) 0 d = recvPay m ρ c r o := by
  show xferPay m ρ c (rcvS r o).val = _
  have hr := r.isLt; have ho := o.isLt
  unfold xferPay
  rw [rcvS_val, if_neg (by omega)]
  congr 1
  · exact Fin.ext (by show (33 + 7 * r.val + o.val - 33) / 7 % 4 = r.val; omega)
  · exact Fin.ext (by show (33 + 7 * r.val + o.val - 33) % 7 % 7 = o.val; omega)

theorem rest_bar : bigSep ((Rd (F := F) m ρ).duties (barCell c) 0 \ ∅) (fun d => (Rd (F := F) m ρ).payload (barCell c) 0 d)
    = bigSep Finset.univ fun o : Fin 7 => barPay (F := F) c o := by
  rw [Finset.sdiff_empty, duties_bar]; rfl
theorem rest_send : bigSep ((Rd (F := F) m ρ).duties (sendCell c r o) 0 \ ∅) (fun d => (Rd (F := F) m ρ).payload (sendCell c r o) 0 d) = sendPay m ρ c r o := by
  rw [Finset.sdiff_empty, duties_send, bigSep_singleton, payload_send]
theorem rest_recv : bigSep ((Rd (F := F) m ρ).duties (recvCell c r o) 0 \ ∅) (fun d => (Rd (F := F) m ρ).payload (recvCell c r o) 0 d) = recvPay m ρ c r o := by
  rw [Finset.sdiff_empty, duties_recv, bigSep_singleton, payload_recv]

end Sched

/-! ## What a device owes; the levels -/

/-- The place of a copy in the order they are started in. -/
abbrev ord (i : Fin 4 × Fin 7) : ℕ := 7 * i.1.val + i.2.val

theorem ord_inj {i j : Fin 4 × Fin 7} (h : ord i = ord j) : i = j := by
  have h1 := i.2.isLt; have h2 := j.2.isLt
  simp only [ord] at h
  exact Prod.ext (Fin.ext (by omega)) (Fin.ext (by omega))

/-- After `n` copies: the credits of the rest of them, at the receive cells of the devices they go to. -/
def OweC (c : Dev nD) (n : ℕ) : CellTallies nD τ sig Unit :=
  ∑ i ∈ Finset.univ.filter (fun i : Fin 4 × Fin 7 => n ≤ ord i), tallyAt (recvCell (tgt c i.2) i.1 i.2) () N
/-- While `k` of the handshake's signals are left: their units. -/
def OweB (c : Dev nD) (k : ℕ) : CellTallies nD τ sig Unit :=
  ∑ o ∈ Finset.univ.filter (fun o : Fin 7 => o.val < k), tallyAt (barCell (src c o)) () 1

theorem OweC_step (c : Dev nD) (i : Fin 4 × Fin 7) :
    OweC c (ord i) = OweC c (ord i + 1) + tallyAt (recvCell (tgt c i.2) i.1 i.2) () N := by
  unfold OweC
  have : Finset.univ.filter (fun j : Fin 4 × Fin 7 => ord i ≤ ord j) = insert i (Finset.univ.filter fun j : Fin 4 × Fin 7 => ord i + 1 ≤ ord j) := by
    ext j
    simp only [Finset.mem_filter, Finset.mem_univ, true_and, Finset.mem_insert]
    constructor
    · intro h
      by_cases e : ord j = ord i
      · exact Or.inl (ord_inj e)
      · exact Or.inr (by omega)
    · rintro (rfl | h)
      · exact le_refl _
      · omega
  rw [this, Finset.sum_insert (by simp), add_comm]
theorem OweC_end (c : Dev nD) : OweC c 28 = 0 := by
  unfold OweC
  rw [Finset.filter_false_of_mem, Finset.sum_empty]
  intro i _
  have := i.1.isLt; have := i.2.isLt
  simp only [ord]; omega
theorem OweB_step (c : Dev nD) (o : Fin 7) : OweB c (o.val + 1) = OweB c o.val + tallyAt (barCell (src c o)) () 1 := by
  unfold OweB
  have : Finset.univ.filter (fun j : Fin 7 => j.val < o.val + 1) = insert o (Finset.univ.filter fun j : Fin 7 => j.val < o.val) := by
    ext j
    simp only [Finset.mem_filter, Finset.mem_univ, true_and, Finset.mem_insert, Fin.ext_iff]
    omega
  rw [this, Finset.sum_insert (by simp), add_comm]
theorem OweB_zero (c : Dev nD) : OweB c 0 = 0 := by
  unfold OweB; rw [Finset.filter_false_of_mem, Finset.sum_empty]; intro i _; omega

/-- What a device owes at launch. -/
def O₀ (c : Dev nD) : CellTallies nD τ sig Unit := OweC c 0 + OweB c 7

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma q => if 33 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (r : Fin 4) (o : Fin 7) : lv (recvCell c r o) () = 2 := by
  show (if 33 ≤ (rcvS r o).val then 2 else 0) = 2
  rw [rcvS_val, if_pos (by omega)]

theorem sum_tally_pos {I : Type} [DecidableEq I] (s : Finset I) (g : I → GSem nD τ sig) (n : ℕ) {g' : GSem nD τ sig} {u : Unit}
    (h : 0 < (∑ i ∈ s, (tallyAt (g i) () n : CellTallies nD τ sig Unit)) g' u) : ∃ i ∈ s, g' = g i := by
  induction s using Finset.induction_on with
  | empty => simp at h
  | insert a s ha ih =>
    rw [Finset.sum_insert ha, Pi.add_apply, Finsupp.add_apply] at h
    by_cases e : g' = g a
    · exact ⟨a, Finset.mem_insert_self _ _, e⟩
    · have h0 : (tallyAt (g a) () n : CellTallies nD τ sig Unit) g' u = 0 := by
        rw [tallyAt_apply, if_neg (fun h' => e h'.1)]
      rw [h0, Nat.zero_add] at h
      obtain ⟨i, hi, e⟩ := ih h
      exact ⟨i, Finset.mem_insert_of_mem hi, e⟩

theorem OweC_pos {c : Dev nD} {n : ℕ} {g : GSem nD τ sig} {u : Unit} (h : 0 < OweC c n g u) : ∃ i : Fin 4 × Fin 7, g = recvCell (tgt c i.2) i.1 i.2 := by
  obtain ⟨i, -, e⟩ := sum_tally_pos _ (fun i : Fin 4 × Fin 7 => recvCell (tgt c i.2) i.1 i.2) N h
  exact ⟨i, e⟩
theorem OweB_pos {c : Dev nD} {n : ℕ} {g : GSem nD τ sig} {u : Unit} (h : 0 < OweB c n g u) : ∃ o : Fin 7, g = barCell (src c o) := by
  obtain ⟨i, -, e⟩ := sum_tally_pos _ (fun o : Fin 7 => barCell (src c o)) 1 h
  exact ⟨i, e⟩
theorem O₀_pos {c : Dev nD} {g : GSem nD τ sig} {u : Unit} (h : 0 < O₀ c g u) :
    (∃ i : Fin 4 × Fin 7, g = recvCell (tgt c i.2) i.1 i.2) ∨ ∃ o : Fin 7, g = barCell (src c o) := by
  unfold O₀ at h
  rw [Pi.add_apply, Finsupp.add_apply] at h
  rcases Nat.eq_zero_or_pos (OweC c 0 g u) with h0 | h0
  · rw [h0, Nat.zero_add] at h; exact Or.inr (OweB_pos h)
  · exact Or.inl (OweC_pos h0)

omit [FloatOps F] in
theorem mayWait_stage (c : Dev nD) (q : DmaSem sig) (hq : q.val < 33) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨o, rfl⟩ <;> exact Finset.mem_singleton_self _)
      (fun p hp => by rw [Finset.mem_singleton.mp hp]; show (if 33 ≤ q.val then 2 else 0) ≤ 0; rw [if_neg (by omega)])
      (fun g u hg => by
        rcases O₀_pos hg with ⟨i, rfl⟩ | ⟨o, rfl⟩
        · show 0 < lv (recvCell _ _ _) (); rw [lv_recv]; decide
        · show 0 < 1; decide)
  · rw [MayWait_zero]; iintro -; iempintro

omit [FloatOps F] in
/-- At its barrier wait a device owes receive credits only, above its barrier cell. -/
theorem mayWait_bar (c : Dev nD) : (levAts L lv : sProp 𝕄) ⊢ MayWait (c : Thread nD τ) (.reg barS) () (OweC c 0) :=
  MayOwe.of_cut (L := L) (lev := lv) 1 (fun p hp => by rw [Finset.mem_singleton.mp hp, L_tc]; exact Finset.mem_singleton_self _)
    (fun g u hg => by obtain ⟨i, rfl⟩ := OweC_pos hg; exact Finset.mem_singleton_self _)
    (fun p hp => by rw [Finset.mem_singleton.mp hp]; exact le_refl _)
    (fun g u hg => by obtain ⟨i, rfl⟩ := OweC_pos hg; show 1 < lv (recvCell _ _ _) (); rw [lv_recv]; decide)

/-! ## The state of a body -/

/-- Every cell's invariant, at the names `K`, and that every cell's first round is open. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)
instance records_persistent (K : Dev nD × CK → ℕ) : BI.Persistent (records m ρ K) := by unfold records; infer_instance

theorem inv_all (K : Dev nD × CK → ℕ) (ck : Dev nD × CK) :
    (bigSep Finset.univ fun ck : Dev nD × CK => (cellInv ER (Rd m ρ) (K ck) (kcell ck) : sProp 𝕄)) ⊢ cellInv ER (Rd m ρ) (K ck) (kcell ck) :=
  bigSep_elim (Finset.mem_univ ck)
theorem reached_all (ck : Dev nD × CK) :
    (bigSep Finset.univ fun ck : Dev nD × CK => (reached ER (kcell ck) 0 : sProp 𝕄)) ⊢ reached ER (kcell ck) 0 :=
  bigSep_elim (Finset.mem_univ ck)
theorem inv_of (K : Dev nD × CK → ℕ) (ck : Dev nD × CK) : records m ρ K ⊢ cellInv ER (Rd m ρ) (K ck) (kcell ck) := by
  unfold records
  iintro ⟨H, -⟩
  iapply (inv_all m ρ K ck); iexact H
theorem reached_of (K : Dev nD × CK → ℕ) (ck : Dev nD × CK) : records m ρ K ⊢ reached ER (kcell ck) 0 := by
  unfold records
  iintro ⟨-, H⟩
  iapply (reached_all ck); iexact H

/-- The staged inputs. -/
def inputs (c : Dev nD) : sProp 𝕄 :=
  iprop((((c : Thread nD τ).loc cc0_stg0_0) ↦{fullShare} xstg m ρ c) ∗ (((c : Thread nD τ).loc cc0_stg1_0) ↦{fullShare} wstg m ρ c)
    ∗ (((c : Thread nD τ).loc cc0_stg2_0) ↦{fullShare} istg m ρ c) ∗ (((c : Thread nD τ).loc cc0_stg3_0) ↦{fullShare} estg m ρ c))
def outPts (c : Dev nD) (n : ℕ) : sProp 𝕄 :=
  iprop(∃ f : Buf (Elt F) ((c : Thread nD τ).loc cc0_stg4_0), ⌜OutDone m ρ c n f⌝ ∗ (((c : Thread nD τ).loc cc0_stg4_0) ↦{fullShare} f))

/-- What a copy not yet started needs besides the piece: its two duties and the place it goes to. -/
def sendTok (c : Dev nD) (ns : ℕ) (i : Fin 4 × Fin 7) : sProp 𝕄 :=
  if ord i < ns then iprop(emp) else
    iprop(dutyTok ER (recvCell (tgt c i.2) i.1 i.2) 0 0 ∗ dutyTok ER (sendCell c i.1 i.2) 0 0 ∗ ∃ f, cmPts (F := F) (tgt c i.2) i.1 i.2 f)
/-- The send cell: not used, its copy started, awaited. -/
def sendPos (c : Dev nD) (ns nw : ℕ) (i : Fin 4 × Fin 7) : sProp 𝕄 :=
  if ord i < nw then atPos ER (sendCell c i.1 i.2) 1 ∅ 0 else
    if ord i < ns then iprop(atPos ER (sendCell c i.1 i.2) 0 ∅ 0 ∗ cred (tallyAt (sendCell c i.1 i.2) () N)) else atPos ER (sendCell c i.1 i.2) 0 ∅ 0
/-- The receive cell: not awaited; awaited, and the slot with what landed. -/
def recvPos (c : Dev nD) (nr : ℕ) (i : Fin 4 × Fin 7) : sProp 𝕄 :=
  if ord i < nr then iprop(atPos ER (recvCell c i.1 i.2) 1 ∅ 0 ∗ cmPts c i.1 i.2 (cmV m ρ c))
  else iprop(atPos ER (recvCell c i.1 i.2) 0 ∅ 0 ∗ cred (tallyAt (recvCell c i.1 i.2) () N))
/-- A piece of a stored slab: away while its copy is under way. -/
def piece (c : Dev nD) (ns nw : ℕ) (r : Fin 4) (o : Fin 7) : sProp 𝕄 :=
  if nw ≤ ord (r, o) ∧ ord (r, o) < ns then iprop(emp) else psPts c r (tgt c o) (psV m ρ c)
/-- Round `r`'s slab: not stored; stored, as its own piece and the seven others. -/
def slab (c : Dev nD) (nst ns nw : ℕ) (r : Fin 4) : sProp 𝕄 :=
  if r.val < nst then iprop(psPts c r c (psV m ρ c) ∗ bigSep Finset.univ (piece m ρ c ns nw r)) else iprop(∃ f, slabPts (F := F) c r f)

/-- Between two operations after the handshake. -/
def St (K : Dev nD × CK → ℕ) (c : Dev nD) (nst ns nw nr no : ℕ) : sProp 𝕄 :=
  iprop(records m ρ K ∗ inputs m ρ c ∗ outPts m ρ c no ∗ bigSep Finset.univ (sendTok (F := F) c ns) ∗ bigSep Finset.univ (sendPos (F := F) c ns nw)
    ∗ bigSep Finset.univ (recvPos m ρ c nr) ∗ bigSep Finset.univ (slab m ρ c nst ns nw) ∗ (∃ W, owes (c : Thread nD τ) (OweC c ns) W)
    ∗ atPos ER (barCell c) 1 ∅ 0)

/-- The duties and slots of the handshake's signals that are left. -/
def sigTok (c : Dev nD) (k : ℕ) (o : Fin 7) : sProp 𝕄 :=
  if o.val < k then iprop(dutyTok ER (barCell (src c o)) 0 o ∗ ∃ f, bigSep Finset.univ fun r : Fin 4 => cmPts (F := F) c r o f) else iprop(emp)
/-- The copies' duties. -/
def copyTok (c : Dev nD) (i : Fin 4 × Fin 7) : sProp 𝕄 :=
  iprop(dutyTok ER (recvCell (tgt c i.2) i.1 i.2) 0 0 ∗ dutyTok ER (sendCell c i.1 i.2) 0 0)

/-- During the handshake, `k` signals left. -/
def Sb (K : Dev nD × CK → ℕ) (c : Dev nD) (k : ℕ) : sProp 𝕄 :=
  iprop(records m ρ K ∗ inputs m ρ c ∗ outPts m ρ c 0 ∗ bigSep Finset.univ (copyTok (F := F) c) ∗ bigSep Finset.univ (sendPos (F := F) c 0 0)
    ∗ bigSep Finset.univ (recvPos m ρ c 0) ∗ bigSep Finset.univ (slab m ρ c 0 0 0) ∗ (∃ W, owes (c : Thread nD τ) (OweC c 0 + OweB c k) W)
    ∗ atPos ER (barCell c) 0 ∅ 0 ∗ bigSep Finset.univ (sigTok (F := F) c k) ∗ cred (tallyAt (barCell c) () 7) ∗ levAts L lv)

end Cert.MoeProof

end
-- ==== Proof.Steps.lean ====
/-
The rule of each of the body's operations, over the state between two operations: a signal and the wait of the
handshake, a load of an input, a slab's store, a copy's start, the waits for its send and for a landing, the loads of
an own piece and of a landing, the store of a block of the result.
-/
module

public import proofs.«01_k».proof.Proof.Sched

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The devices the body computes -/

theorem dev1_eq (c : Dev nD) : (⟨k0_dev1 c, k0_dev1_lt c⟩ : Dev nD) = src c 6 := by revert c; decide +kernel
theorem dev2_eq (c : Dev nD) : (⟨k0_dev2 c, k0_dev2_lt c⟩ : Dev nD) = src c 5 := by revert c; decide +kernel
theorem dev3_eq (c : Dev nD) : (⟨k0_dev3 c, k0_dev3_lt c⟩ : Dev nD) = src c 4 := by revert c; decide +kernel
theorem dev4_eq (c : Dev nD) : (⟨k0_dev4 c, k0_dev4_lt c⟩ : Dev nD) = src c 3 := by revert c; decide +kernel
theorem dev5_eq (c : Dev nD) : (⟨k0_dev5 c, k0_dev5_lt c⟩ : Dev nD) = src c 2 := by revert c; decide +kernel
theorem dev6_eq (c : Dev nD) : (⟨k0_dev6 c, k0_dev6_lt c⟩ : Dev nD) = src c 1 := by revert c; decide +kernel
theorem dev7_eq (c : Dev nD) : (⟨k0_dev7 c, k0_dev7_lt c⟩ : Dev nD) = src c 0 := by revert c; decide +kernel
theorem dev8_eq (c : Dev nD) : (⟨k0_dev8 c, k0_dev8_lt c⟩ : Dev nD) = tgt c 0 := by revert c; decide +kernel
theorem dev9_eq (c : Dev nD) : (⟨k0_dev9 c, k0_dev9_lt c⟩ : Dev nD) = tgt c 1 := by revert c; decide +kernel
theorem dev10_eq (c : Dev nD) : (⟨k0_dev10 c, k0_dev10_lt c⟩ : Dev nD) = tgt c 2 := by revert c; decide +kernel
theorem dev11_eq (c : Dev nD) : (⟨k0_dev11 c, k0_dev11_lt c⟩ : Dev nD) = tgt c 3 := by revert c; decide +kernel
theorem dev12_eq (c : Dev nD) : (⟨k0_dev12 c, k0_dev12_lt c⟩ : Dev nD) = tgt c 4 := by revert c; decide +kernel
theorem dev13_eq (c : Dev nD) : (⟨k0_dev13 c, k0_dev13_lt c⟩ : Dev nD) = tgt c 5 := by revert c; decide +kernel
theorem dev14_eq (c : Dev nD) : (⟨k0_dev14 c, k0_dev14_lt c⟩ : Dev nD) = tgt c 6 := by revert c; decide +kernel
theorem dev15_eq (c : Dev nD) : (⟨k0_dev15 c, k0_dev15_lt c⟩ : Dev nD) = tgt c 0 := by revert c; decide +kernel
theorem dev16_eq (c : Dev nD) : (⟨k0_dev16 c, k0_dev16_lt c⟩ : Dev nD) = tgt c 1 := by revert c; decide +kernel
theorem dev17_eq (c : Dev nD) : (⟨k0_dev17 c, k0_dev17_lt c⟩ : Dev nD) = tgt c 2 := by revert c; decide +kernel
theorem dev18_eq (c : Dev nD) : (⟨k0_dev18 c, k0_dev18_lt c⟩ : Dev nD) = tgt c 3 := by revert c; decide +kernel
theorem dev19_eq (c : Dev nD) : (⟨k0_dev19 c, k0_dev19_lt c⟩ : Dev nD) = tgt c 4 := by revert c; decide +kernel
theorem dev20_eq (c : Dev nD) : (⟨k0_dev20 c, k0_dev20_lt c⟩ : Dev nD) = tgt c 5 := by revert c; decide +kernel
theorem dev21_eq (c : Dev nD) : (⟨k0_dev21 c, k0_dev21_lt c⟩ : Dev nD) = tgt c 6 := by revert c; decide +kernel
theorem dev22_eq (c : Dev nD) : (⟨k0_dev22 c, k0_dev22_lt c⟩ : Dev nD) = tgt c 0 := by revert c; decide +kernel
theorem dev23_eq (c : Dev nD) : (⟨k0_dev23 c, k0_dev23_lt c⟩ : Dev nD) = tgt c 1 := by revert c; decide +kernel
theorem dev24_eq (c : Dev nD) : (⟨k0_dev24 c, k0_dev24_lt c⟩ : Dev nD) = tgt c 2 := by revert c; decide +kernel
theorem dev25_eq (c : Dev nD) : (⟨k0_dev25 c, k0_dev25_lt c⟩ : Dev nD) = tgt c 3 := by revert c; decide +kernel
theorem dev26_eq (c : Dev nD) : (⟨k0_dev26 c, k0_dev26_lt c⟩ : Dev nD) = tgt c 4 := by revert c; decide +kernel
theorem dev27_eq (c : Dev nD) : (⟨k0_dev27 c, k0_dev27_lt c⟩ : Dev nD) = tgt c 5 := by revert c; decide +kernel
theorem dev28_eq (c : Dev nD) : (⟨k0_dev28 c, k0_dev28_lt c⟩ : Dev nD) = tgt c 6 := by revert c; decide +kernel
theorem dev29_eq (c : Dev nD) : (⟨k0_dev29 c, k0_dev29_lt c⟩ : Dev nD) = tgt c 0 := by revert c; decide +kernel
theorem dev30_eq (c : Dev nD) : (⟨k0_dev30 c, k0_dev30_lt c⟩ : Dev nD) = tgt c 1 := by revert c; decide +kernel
theorem dev31_eq (c : Dev nD) : (⟨k0_dev31 c, k0_dev31_lt c⟩ : Dev nD) = tgt c 2 := by revert c; decide +kernel
theorem dev32_eq (c : Dev nD) : (⟨k0_dev32 c, k0_dev32_lt c⟩ : Dev nD) = tgt c 3 := by revert c; decide +kernel
theorem dev33_eq (c : Dev nD) : (⟨k0_dev33 c, k0_dev33_lt c⟩ : Dev nD) = tgt c 4 := by revert c; decide +kernel
theorem dev34_eq (c : Dev nD) : (⟨k0_dev34 c, k0_dev34_lt c⟩ : Dev nD) = tgt c 5 := by revert c; decide +kernel
theorem dev35_eq (c : Dev nD) : (⟨k0_dev35 c, k0_dev35_lt c⟩ : Dev nD) = tgt c 6 := by revert c; decide +kernel

/-! ## Taking one member out of a family -/

theorem peel {I : Type} [Fintype I] [DecidableEq I] (Φ Ψ : I → sProp 𝕄) (i : I) (h : ∀ j, j ≠ i → Φ j = Ψ j) :
    ∃ R : sProp 𝕄, bigSep Finset.univ Φ = iprop(Φ i ∗ R) ∧ bigSep Finset.univ Ψ = iprop(Ψ i ∗ R) :=
  ⟨bigSep (Finset.univ.erase i) Φ, bigSep_univ_at Φ i, by
    rw [bigSep_univ_at Ψ i, bigSep_congr (Φ := Φ) (Ψ := Ψ) fun j hj => h j (Finset.ne_of_mem_erase hj)]⟩

theorem tgt_erase (c : Dev nD) : (Finset.univ : Finset (Dev nD)).erase c = Finset.univ.map ⟨tgt c, tgt_inj c⟩ := by
  ext d
  simp only [Finset.mem_erase, Finset.mem_univ, and_true, Finset.mem_map, true_and, Function.Embedding.coeFn_mk]
  constructor
  · intro h; obtain ⟨o, e⟩ := eq_tgt c d h; exact ⟨o, e.symm⟩
  · rintro ⟨o, rfl⟩; exact tgt_ne c o
/-- A slab is the own piece and the seven others. -/
theorem by_tgt (c : Dev nD) (Φ : Fin 8 → sProp 𝕄) :
    bigSep Finset.univ Φ = iprop(Φ c ∗ bigSep Finset.univ fun o : Fin 7 => Φ (tgt c o)) := by
  rw [bigSep_univ_at Φ (c : Fin 8)]
  congr 1
  exact (congrArg (fun s => bigSep s Φ) (tgt_erase c)).trans (bigSep_map ⟨tgt c, tgt_inj c⟩)

/-! ## The rules -/

section Steps

/-- The weakest precondition on core `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CK → ℕ) (c : Dev nD) {nst ns nw nr no : ℕ}

theorem st_load_x {α : Type} {Q : α → sProp 𝕄} {r : LoadRect S1024x512} {hl : xM.view.LoadsAt r} {k : Vec F r.shape .f32 → Prog (TpuEff nD τ sig (Elt F) Λ₀ .tc) α}
    (h : St m ρ K c nst ns nw nr no ⊢ WP c (k (xM.view.readAt (Elt F) r (xstg m ρ c))) Q) :
    St m ρ K c nst ns nw nr no ⊢ WP c (.op (.load xM r hl) k) Q := by
  unfold St inputs at h ⊢
  iintro ⟨Hrec, ⟨Hx, Hrest⟩, Hall⟩
  iapply (wp_load 𝒱₀ (c : Thread nD τ) none Set.univ (m := xM) (Finset.subset_univ _)) $$ Hx; iintro Hx
  iapply h
  isplitl [Hrec]; · iexact Hrec
  isplitl [Hx Hrest]
  · isplitl [Hx]; · iexact Hx
    iexact Hrest
  iexact Hall

theorem st_load_w {α : Type} {Q : α → sProp 𝕄} {r : LoadRect S512x32} {hl : wM.view.LoadsAt r} {k : Vec F r.shape .f32 → Prog (TpuEff nD τ sig (Elt F) Λ₀ .tc) α}
    (h : St m ρ K c nst ns nw nr no ⊢ WP c (k (wM.view.readAt (Elt F) r (wstg m ρ c))) Q) :
    St m ρ K c nst ns nw nr no ⊢ WP c (.op (.load wM r hl) k) Q := by
  unfold St inputs at h ⊢
  iintro ⟨Hrec, ⟨Hr1, Hx, Hrest⟩, Hall⟩
  iapply (wp_load 𝒱₀ (c : Thread nD τ) none Set.univ (m := wM) (Finset.subset_univ _)) $$ Hx; iintro Hx
  iapply h
  isplitl [Hrec]; · iexact Hrec
  isplitl [Hr1 Hx Hrest]
  · isplitl [Hr1]; · iexact Hr1
    isplitl [Hx]; · iexact Hx
    iexact Hrest
  iexact Hall

theorem st_load_i {α : Type} {Q : α → sProp 𝕄} {r : LoadRect S1024x2} {hl : iM.view.LoadsAt r} {k : Vec F r.shape .i32 → Prog (TpuEff nD τ sig (Elt F) Λ₀ .tc) α}
    (h : St m ρ K c nst ns nw nr no ⊢ WP c (k (iM.view.readAt (Elt F) r (istg m ρ c))) Q) :
    St m ρ K c nst ns nw nr no ⊢ WP c (.op (.load iM r hl) k) Q := by
  unfold St inputs at h ⊢
  iintro ⟨Hrec, ⟨Hr1, Hr2, Hx, Hrest⟩, Hall⟩
  iapply (wp_load 𝒱₀ (c : Thread nD τ) none Set.univ (m := iM) (Finset.subset_univ _)) $$ Hx; iintro Hx
  iapply h
  isplitl [Hrec]; · iexact Hrec
  isplitl [Hr1 Hr2 Hx Hrest]
  · isplitl [Hr1]; · iexact Hr1
    isplitl [Hr2]; · iexact Hr2
    isplitl [Hx]; · iexact Hx
    iexact Hrest
  iexact Hall

theorem st_load_e {α : Type} {Q : α → sProp 𝕄} {r : LoadRect S4x512x1024} {hl : eM.view.LoadsAt r} {k : Vec F r.shape .f32 → Prog (TpuEff nD τ sig (Elt F) Λ₀ .tc) α}
    (h : St m ρ K c nst ns nw nr no ⊢ WP c (k (eM.view.readAt (Elt F) r (estg m ρ c))) Q) :
    St m ρ K c nst ns nw nr no ⊢ WP c (.op (.load eM r hl) k) Q := by
  unfold St inputs at h ⊢
  iintro ⟨Hrec, ⟨Hr1, Hr2, Hr3, Hx⟩, Hall⟩
  iapply (wp_load 𝒱₀ (c : Thread nD τ) none Set.univ (m := eM) (Finset.subset_univ _)) $$ Hx; iintro Hx
  iapply h
  isplitl [Hrec]; · iexact Hrec
  isplitl [Hr1 Hr2 Hr3 Hx]
  · isplitl [Hr1]; · iexact Hr1
    isplitl [Hr2]; · iexact Hr2
    isplitl [Hr3]; · iexact Hr3
    iexact Hx
  iexact Hall

/-- A copy's start: the piece and the place it goes to leave with it. -/
theorem st_send {α : Type} {Q : α → sProp 𝕄} (r : Fin 4) (o : Fin 7) (hns : ns = 7 * r.val + o.val) (hst : r.val < nst) (hnw : nw ≤ ns)
    {n : Dev nD} (hn : n = tgt c o) {s : Memref sig .tc .vmem S128x256 .bf16} (hs : s = psSl r (tgt c o))
    {hsc : (cmSl r o : Memref sig (Dev.tc n : Thread nD τ).2.kind .vmem S128x256 .bf16).view.ref.isScScratch = false}
    {hsrc : s.view.WordExact} {hdst : (cmSl r o : Memref sig (Dev.tc n : Thread nD τ).2.kind .vmem S128x256 .bf16).view.WordExact}
    {hsem : DmaTarget.Typed .vmem (.dma (rcvS r o)) (.remote (Dev.tc n : Thread nD τ) (cmSl r o : Memref sig (Dev.tc n : Thread nD τ).2.kind .vmem S128x256 .bf16) (.dma (sndS r o)) hsc)}
    {k : PUnit → Prog (TpuEff nD τ sig (Elt F) Λ₀ .tc) α}
    (h : St m ρ K c nst (ns + 1) nw nr no ⊢ WP c (k ⟨⟩) Q) :
    St m ρ K c nst ns nw nr no ⊢ WP c (.op (.enqueueDma s (.remote (Dev.tc n : Thread nD τ)
      (cmSl r o : Memref sig (Dev.tc n : Thread nD τ).2.kind .vmem S128x256 .bf16) (.dma (sndS r o)) hsc) (.dma (rcvS r o)) hsrc hdst hsem) k) Q := by
  subst hn hs
  have hord : ord (r, o) = ns := hns.symm
  have hne : ∀ j : Fin 4 × Fin 7, j ≠ (r, o) → (ord j < ns + 1 ↔ ord j < ns) := fun j hj => by
    have : ord j ≠ ns := fun e => hj (ord_inj (e.trans hord.symm))
    omega
  obtain ⟨RA, eA, eA'⟩ := peel (sendTok (F := F) c ns) (sendTok c (ns + 1)) (r, o) fun j hj => by
    simp only [sendTok, hne j hj]
  obtain ⟨RB, eB, eB'⟩ := peel (sendPos (F := F) c ns nw) (sendPos c (ns + 1) nw) (r, o) fun j hj => by
    simp only [sendPos, hne j hj]
  obtain ⟨RP, eP, eP'⟩ := peel (slab m ρ c nst ns nw) (slab m ρ c nst (ns + 1) nw) r fun r' hr' => by
    simp only [slab]
    rw [bigSep_congr fun o' _ => show piece m ρ c ns nw r' o' = piece m ρ c (ns + 1) nw r' o' by
      simp only [piece, hne (r', o') (fun e => hr' (congrArg Prod.fst e))]]
  obtain ⟨RQ, eQ, eQ'⟩ := peel (piece m ρ c ns nw r) (piece m ρ c (ns + 1) nw r) o fun o' ho' => by
    simp only [piece, hne (r, o') (fun e => ho' (congrArg Prod.snd e))]
  have a1 : sendTok (F := F) c ns (r, o) = iprop(dutyTok ER (recvCell (tgt c o) r o) 0 0 ∗ dutyTok ER (sendCell c r o) 0 0 ∗ ∃ f, cmPts (F := F) (tgt c o) r o f) := by
    unfold sendTok; rw [if_neg (by omega)]
  have a2 : sendTok (F := F) c (ns + 1) (r, o) = iprop(emp) := by unfold sendTok; rw [if_pos (by omega)]
  have b1 : sendPos (F := F) c ns nw (r, o) = atPos ER (sendCell c r o) 0 ∅ 0 := by
    unfold sendPos; rw [if_neg (by omega), if_neg (by omega)]
  have b2 : sendPos (F := F) c (ns + 1) nw (r, o) = iprop(atPos ER (sendCell c r o) 0 ∅ 0 ∗ cred (tallyAt (sendCell c r o) () N)) := by
    unfold sendPos; rw [if_neg (by omega), if_pos (by omega)]
  have p1 : slab m ρ c nst ns nw r = iprop(psPts c r c (psV m ρ c) ∗ psPts c r (tgt c o) (psV m ρ c) ∗ RQ) := by
    unfold slab; rw [if_pos hst, eQ]; congr 2; unfold piece; rw [if_neg (by omega)]
  have p2 : slab m ρ c nst (ns + 1) nw r = iprop(psPts c r c (psV m ρ c) ∗ emp ∗ RQ) := by
    unfold slab; rw [if_pos hst, eQ']; congr 2; unfold piece; rw [if_pos (by omega)]
  have hO : OweC c ns = OweC c (ns + 1) + tallyAt (recvCell (tgt c o) r o) () N := by
    have := OweC_step c (r, o); rwa [hord] at this
  unfold St at h ⊢
  rw [eA, eB, eP, a1, b1, p1]
  rw [eA', eB', eP', a2, b2, p2] at h
  iintro ⟨#Hrec, Hin, Hout, ⟨⟨HtV, HtS, %fd, Hd⟩, HA⟩, ⟨HatS, HB⟩, HC, ⟨⟨Hown, Hpc, HQ⟩, HP⟩, ⟨%W, HO⟩, Hbar⟩
  unfold psPts cmPts
  iapply (Rounds.wp_send_pointsTo 𝒱₀ ER (Rd m ρ) (c : Thread nD τ) none (κ₁ := K (c, some (false, r, o))) (κ₂ := K (tgt c o, some (true, r, o)))
    (c' := (tgt c o : Thread nD τ)) (src := psSl r (tgt c o)) (dst := cmSl r o) (fs := psV m ρ c) (q := fullShare) (sS := .dma (sndS r o)) (sem := .dma (rcvS r o)) (r₁ := 0) (r₂ := 0) (d₁ := 0) (d₂ := 0) (fd := fd)
    (by rw [show (((c : Thread nD τ), SemLoc.dma (sndS r o)) : GSem nD τ sig) = sendCell c r o from rfl, duties_send]; exact Finset.mem_singleton_self _)
    (by rw [show (((tgt c o : Thread nD τ), SemLoc.dma (rcvS r o)) : GSem nD τ sig) = recvCell (tgt c o) r o from rfl, duties_recv]; exact Finset.mem_singleton_self _)
    () () N (cm_credit r o) rfl rfl (OweC c (ns + 1)) hO (W := W)
    (by rw [show (((c : Thread nD τ), SemLoc.dma (sndS r o)) : GSem nD τ sig) = sendCell c r o from rfl, payload_send]; exact BI.Entails.refl _)
    (by
      rw [show (((tgt c o : Thread nD τ), SemLoc.dma (rcvS r o)) : GSem nD τ sig) = recvCell (tgt c o) r o from rfl, payload_recv]
      unfold recvPay cmPts
      exact Entails.of_eq (pointsTo_congr (land_eq m ρ c r o fd)))) $$ [HtV HtS Hd Hpc HO]
  · isplitr; · iapply (inv_of m ρ K (c, some (false, r, o))); iexact Hrec
    isplitr; · iapply (inv_of m ρ K (tgt c o, some (true, r, o))); iexact Hrec
    isplitl [Hpc]; · iexact Hpc
    isplitl [Hd]; · iexact Hd
    isplitl [HO]; · iexact HO
    isplitl [HtS]; · iexact HtS
    isplitr; · iapply (reached_of m ρ K (c, some (false, r, o))); iexact Hrec
    isplitl [HtV]; · iexact HtV
    iapply (reached_of m ρ K (tgt c o, some (true, r, o))); iexact Hrec
  iintro ⟨Hcr, HO⟩
  iapply h
  isplitr; · iexact Hrec
  isplitl [Hin]; · iexact Hin
  isplitl [Hout]; · iexact Hout
  isplitl [HA]
  · isplitr; · iempintro
    iexact HA
  isplitl [HatS Hcr HB]
  · isplitl [HatS Hcr]
    · isplitl [HatS]; · iexact HatS
      iexact Hcr
    iexact HB
  isplitl [HC]; · iexact HC
  isplitl [Hown HQ HP]
  · isplitl [Hown HQ]
    · isplitl [Hown]; · unfold psPts; iexact Hown
      isplitr; · iempintro
      iexact HQ
    iexact HP
  isplitl [HO]; · iexists W; iexact HO
  iexact Hbar

/-- The wait for a copy's send: the piece comes back. -/
theorem st_send_wait {α : Type} {Q : α → sProp 𝕄} (r : Fin 4) (o : Fin 7) (hnw : nw = 7 * r.val + o.val) (hns : ns = 28) (hst : r.val < nst)
    {s d : Memref sig .tc .vmem S128x256 .bf16} (hd : d.view.dmaCredit = N) {h1 : s.view.WordExact} {h2 : d.view.WordExact}
    {k : PUnit → Prog (TpuEff nD τ sig (Elt F) Λ₀ .tc) α}
    (h : St m ρ K c nst ns (nw + 1) nr no ⊢ WP c (k ⟨⟩) Q) :
    St m ρ K c nst ns nw nr no ⊢ WP c (.op (.waitDma2 (sndS r o) s d h1 h2) k) Q := by
  subst hns
  have hord : ord (r, o) = nw := hnw.symm
  have hr4 := r.isLt
  have ho7 := o.isLt
  have hne : ∀ j : Fin 4 × Fin 7, j ≠ (r, o) → (ord j < nw + 1 ↔ ord j < nw) ∧ (nw + 1 ≤ ord j ↔ nw ≤ ord j) := fun j hj => by
    have : ord j ≠ nw := fun e => hj (ord_inj (e.trans hord.symm))
    omega
  obtain ⟨RB, eB, eB'⟩ := peel (sendPos (F := F) c 28 nw) (sendPos c 28 (nw + 1)) (r, o) fun j hj => by
    simp only [sendPos, (hne j hj).1]
  obtain ⟨RP, eP, eP'⟩ := peel (slab m ρ c nst 28 nw) (slab m ρ c nst 28 (nw + 1)) r fun r' hr' => by
    simp only [slab]
    rw [bigSep_congr fun o' _ => show piece m ρ c 28 nw r' o' = piece m ρ c 28 (nw + 1) r' o' by
      simp only [piece, (hne (r', o') (fun e => hr' (congrArg Prod.fst e))).2]]
  obtain ⟨RQ, eQ, eQ'⟩ := peel (piece m ρ c 28 nw r) (piece m ρ c 28 (nw + 1) r) o fun o' ho' => by
    simp only [piece, (hne (r, o') (fun e => ho' (congrArg Prod.snd e))).2]
  have b1 : sendPos (F := F) c 28 nw (r, o) = iprop(atPos ER (sendCell c r o) 0 ∅ 0 ∗ cred (tallyAt (sendCell c r o) () N)) := by
    unfold sendPos; rw [if_neg (by omega), if_pos (by omega)]
  have b2 : sendPos (F := F) c 28 (nw + 1) (r, o) = atPos ER (sendCell c r o) 1 ∅ 0 := by
    unfold sendPos; rw [if_pos (by omega)]
  have p1 : slab m ρ c nst 28 nw r = iprop(psPts c r c (psV m ρ c) ∗ emp ∗ RQ) := by
    unfold slab; rw [if_pos hst, eQ]; congr 2; unfold piece; rw [if_pos (by omega)]
  have p2 : slab m ρ c nst 28 (nw + 1) r = iprop(psPts c r c (psV m ρ c) ∗ psPts c r (tgt c o) (psV m ρ c) ∗ RQ) := by
    unfold slab; rw [if_pos hst, eQ']; congr 2; unfold piece; rw [if_neg (by omega)]
  unfold St at h ⊢
  rw [eB, eP, b1, p1]
  rw [eB', eP', b2, p2] at h
  rw [OweC_end] at h ⊢
  iintro ⟨#Hrec, Hin, Hout, HA, ⟨⟨HatS, Hcr⟩, HB⟩, HC, ⟨⟨Hown, -, HQ⟩, HP⟩, ⟨%W, HO⟩, Hbar⟩
  iapply (Rounds.wp_wait_rest_token 𝒱₀ ER (Rd m ρ) (c : Thread nD τ) none (κ := K (c, some (false, r, o))) (sm := .dma (sndS r o)) (k' := N)
      (fun Kf => (wpE_waitDma2_eq 𝒱₀ (c : Thread nD τ) none Set.univ Kf).trans (by rw [hd])) (Set.mem_univ _) () (O := 0) (W := W) (R := 0) (m := 0) (T := ∅)
      (by rw [Nat.zero_add]; exact (expect_send m ρ c r o).symm)) $$ [Hcr HO HatS]
  · isplitr; · iapply (inv_of m ρ K (c, some (false, r, o))); iexact Hrec
    isplitl [Hcr]; · iexact Hcr
    isplitl [HO]; · iexact HO
    isplitr; · rw [MayWait_zero]; iempintro
    iexact HatS
  iintro ⟨HO, HatS, -, Hpay⟩
  ihave Hpc := (Entails.of_eq (rest_send m ρ c r o)) $$ Hpay
  iapply h
  isplitr; · iexact Hrec
  isplitl [Hin]; · iexact Hin
  isplitl [Hout]; · iexact Hout
  isplitl [HA]; · iexact HA
  isplitl [HatS HB]
  · isplitl [HatS]; · iexact HatS
    iexact HB
  isplitl [HC]; · iexact HC
  isplitl [Hown Hpc HQ HP]
  · isplitl [Hown Hpc HQ]
    · isplitl [Hown]; · iexact Hown
      isplitl [Hpc]; · unfold sendPay; iexact Hpc
      iexact HQ
    iexact HP
  isplitl [HO]; · iexists _; iexact HO
  iexact Hbar

/-- The wait for a landing: the slot comes with the sender's piece in it. -/
theorem st_recv_wait {α : Type} {Q : α → sProp 𝕄} (r : Fin 4) (o : Fin 7) (hnr : nr = 7 * r.val + o.val) (hns : ns = 28)
    {s d : Memref sig .tc .vmem S128x256 .bf16} (hd : d.view.dmaCredit = N) {h1 : s.view.WordExact} {h2 : d.view.WordExact}
    {k : PUnit → Prog (TpuEff nD τ sig (Elt F) Λ₀ .tc) α}
    (h : St m ρ K c nst ns nw (nr + 1) no ⊢ WP c (k ⟨⟩) Q) :
    St m ρ K c nst ns nw nr no ⊢ WP c (.op (.waitDma2 (rcvS r o) s d h1 h2) k) Q := by
  subst hns
  have hord : ord (r, o) = nr := hnr.symm
  have hne : ∀ j : Fin 4 × Fin 7, j ≠ (r, o) → (ord j < nr + 1 ↔ ord j < nr) := fun j hj => by
    have : ord j ≠ nr := fun e => hj (ord_inj (e.trans hord.symm))
    omega
  obtain ⟨RC, eC, eC'⟩ := peel (recvPos m ρ c nr) (recvPos m ρ c (nr + 1)) (r, o) fun j hj => by
    simp only [recvPos, hne j hj]
  have c1 : recvPos m ρ c nr (r, o) = iprop(atPos ER (recvCell c r o) 0 ∅ 0 ∗ cred (tallyAt (recvCell c r o) () N)) := by
    unfold recvPos; rw [if_neg (by omega)]
  have c2 : recvPos m ρ c (nr + 1) (r, o) = iprop(atPos ER (recvCell c r o) 1 ∅ 0 ∗ cmPts c r o (cmV m ρ c)) := by
    unfold recvPos; rw [if_pos (by omega)]
  unfold St at h ⊢
  rw [eC, c1]
  rw [eC', c2] at h
  rw [OweC_end] at h ⊢
  iintro ⟨#Hrec, Hin, Hout, HA, HB, ⟨⟨HatV, Hcr⟩, HC⟩, HP, ⟨%W, HO⟩, Hbar⟩
  iapply (Rounds.wp_wait_rest_token 𝒱₀ ER (Rd m ρ) (c : Thread nD τ) none (κ := K (c, some (true, r, o))) (sm := .dma (rcvS r o)) (k' := N)
      (fun Kf => (wpE_waitDma2_eq 𝒱₀ (c : Thread nD τ) none Set.univ Kf).trans (by rw [hd])) (Set.mem_univ _) () (O := 0) (W := W) (R := 0) (m := 0) (T := ∅)
      (by rw [Nat.zero_add]; exact (expect_recv m ρ c r o).symm)) $$ [Hcr HO HatV]
  · isplitr; · iapply (inv_of m ρ K (c, some (true, r, o))); iexact Hrec
    isplitl [Hcr]; · iexact Hcr
    isplitl [HO]; · iexact HO
    isplitr; · rw [MayWait_zero]; iempintro
    iexact HatV
  iintro ⟨HO, HatV, -, Hpay⟩
  ihave Hpc := (Entails.of_eq (rest_recv m ρ c r o)) $$ Hpay
  iapply h
  isplitr; · iexact Hrec
  isplitl [Hin]; · iexact Hin
  isplitl [Hout]; · iexact Hout
  isplitl [HA]; · iexact HA
  isplitl [HB]; · iexact HB
  isplitl [HatV Hpc HC]
  · isplitl [HatV Hpc]
    · isplitl [HatV]; · iexact HatV
      unfold recvPay; iexact Hpc
    iexact HC
  isplitl [HP]; · iexact HP
  isplitl [HO]; · iexists _; iexact HO
  iexact Hbar

theorem acc_ps (r : Fin 4) (d : Fin 8) : (psM.access (psR r d) : View sig .tc _ _ _).set = psBlk r d := (View.set_slice_whole _ _).trans (psR_set r d)
theorem acc_cm (r : Fin 4) (o : Fin 7) : (cmM.access (cmR r o) : View sig .tc _ _ _).set = cmBlk r o := (View.set_slice_whole _ _).trans (cmR_set r o)
theorem acc_slab (r : Fin 4) : (psM.access (slabR r) : View sig .tc _ _ _).set = slabBlk r := (View.set_slice_whole _ _).trans (slabR_set r)

/-- The load of a slab not stored yet, whose value nothing reads. -/
theorem st_load_slab {α : Type} {Q : α → sProp 𝕄} (r : Fin 4) (hst : nst = r.val) {hl : psM.view.LoadsAt (slabR r).toLoadRect}
    {k : Vec F S1x8x128x256 .bf16 → Prog (TpuEff nD τ sig (Elt F) Λ₀ .tc) α}
    (h : ∀ v, St m ρ K c nst ns nw nr no ⊢ WP c (k v) Q) :
    St m ρ K c nst ns nw nr no ⊢ WP c (.op (.load psM (slabR r).toLoadRect hl) k) Q := by
  obtain ⟨RP, eP, -⟩ := peel (slab m ρ c nst ns nw) (slab m ρ c nst ns nw) r fun _ _ => rfl
  have p1 : slab m ρ c nst ns nw r = iprop(∃ f, slabPts (F := F) c r f) := by unfold slab; rw [if_neg (by omega)]
  unfold St at h ⊢
  rw [eP, p1] at h ⊢
  iintro ⟨Hrec, Hin, Hout, HA, HB, HC, ⟨⟨%f, Hs⟩, HP⟩, Hall⟩
  unfold slabPts
  iapply (wp_load_rect 𝒱₀ (c : Thread nD τ) none Set.univ (m := psM) (r := slabR r) (S := slabBlk r) (by rw [acc_slab])) $$ Hs; iintro Hs
  iapply (h _)
  isplitl [Hrec]; · iexact Hrec
  isplitl [Hin]; · iexact Hin
  isplitl [Hout]; · iexact Hout
  isplitl [HA]; · iexact HA
  isplitl [HB]; · iexact HB
  isplitl [HC]; · iexact HC
  isplitl [Hs HP]
  · isplitl [Hs]; · iexists f; unfold slabPts; iexact Hs
    iexact HP
  iexact Hall

/-- A slab's store: the slab is its own piece and the seven to send. -/
theorem st_store_slab {α : Type} {Q : α → sProp 𝕄} (r : Fin 4) (hst : nst = r.val) (hns : ns ≤ 7 * r.val) {w : Vec F S1x8x128x256 .bf16} (hw : w = slabV m ρ c r)
    {hx : (psM.access (slabR r) : View sig .tc _ _ _).Stores Finset.univ} {hm : (Finset.univ : Finset (slabR r).shape.Idx) = Finset.univ ∨ ∀ a, (slabR r).stride a = 1}
    {k : PUnit → Prog (TpuEff nD τ sig (Elt F) Λ₀ .tc) α}
    (h : St m ρ K c (nst + 1) ns nw nr no ⊢ WP c (k ⟨⟩) Q) :
    St m ρ K c nst ns nw nr no ⊢ WP c (.op (.store psM (slabR r) w Finset.univ hx hm) k) Q := by
  subst hw
  obtain ⟨RP, eP, eP'⟩ := peel (slab m ρ c nst ns nw) (slab m ρ c (nst + 1) ns nw) r fun r' hr' => by
    have : r'.val ≠ r.val := fun e => hr' (Fin.ext e)
    have e : (r'.val < nst + 1) = (r'.val < nst) := propext (by omega)
    simp only [slab, e]
  have p1 : slab m ρ c nst ns nw r = iprop(∃ f, slabPts (F := F) c r f) := by unfold slab; rw [if_neg (by omega)]
  have p2 : slab m ρ c (nst + 1) ns nw r = slabPts c r (psV m ρ c) := by
    unfold slab; rw [if_pos (by omega), slab_split, by_tgt c]
    congr 1
    refine bigSep_congr fun o _ => ?_
    unfold piece; rw [if_neg (by simp only [ord]; omega)]
  unfold St at h ⊢
  rw [eP, p1]
  rw [eP', p2] at h
  iintro ⟨Hrec, Hin, Hout, HA, HB, HC, ⟨⟨%f, Hs⟩, HP⟩, Hall⟩
  unfold slabPts
  iapply (wp_store 𝒱₀ (c : Thread nD τ) none Set.univ (m := psM) (r := slabR r) (Mk := Finset.univ) (S := slabBlk r) (by rw [View.setOn_univ, acc_slab])) $$ Hs; iintro Hs
  iapply h
  isplitl [Hrec]; · iexact Hrec
  isplitl [Hin]; · iexact Hin
  isplitl [Hout]; · iexact Hout
  isplitl [HA]; · iexact HA
  isplitl [HB]; · iexact HB
  isplitl [HC]; · iexact HC
  isplitl [Hs HP]
  · isplitl [Hs]
    · unfold slabPts
      iapply (Entails.of_eq (pointsTo_congr (slab_write m ρ c r f)))
      iexact Hs
    iexact HP
  iexact Hall

/-- The load of the own piece. -/
theorem st_load_own {α : Type} {Q : α → sProp 𝕄} (r : Fin 4) (hst : r.val < nst) {off : Fin 4 → Nat} {inb} (hoff : off = ![r.val, c.val, 0, 0])
    {hl : psM.view.LoadsAt (Rect.unit (s := S4x8x128x256) off S1x1x128x256.size inb).toLoadRect}
    {k : Vec F S1x1x128x256 .bf16 → Prog (TpuEff nD τ sig (Elt F) Λ₀ .tc) α}
    (h : St m ρ K c nst ns nw nr no ⊢ WP c (k (ownV m ρ c r)) Q) :
    St m ρ K c nst ns nw nr no ⊢ WP c (.op (.load psM (Rect.unit (s := S4x8x128x256) off S1x1x128x256.size inb).toLoadRect hl) k) Q := by
  subst hoff
  obtain ⟨RP, eP, -⟩ := peel (slab m ρ c nst ns nw) (slab m ρ c nst ns nw) r fun _ _ => rfl
  have p1 : slab m ρ c nst ns nw r = iprop(psPts c r c (psV m ρ c) ∗ bigSep Finset.univ (piece m ρ c ns nw r)) := by unfold slab; rw [if_pos hst]
  unfold St at h ⊢
  rw [eP, p1, psPts_eq] at h ⊢
  iintro ⟨Hrec, Hin, Hout, HA, HB, HC, ⟨⟨Hs, HQ⟩, HP⟩, Hall⟩
  iapply (wp_load_rect 𝒱₀ (c : Thread nD τ) none Set.univ (m := psM) (r := psR r c) (S := psBlk r c) (by rw [acc_ps])) $$ Hs; iintro Hs
  iapply h
  isplitl [Hrec]; · iexact Hrec
  isplitl [Hin]; · iexact Hin
  isplitl [Hout]; · iexact Hout
  isplitl [HA]; · iexact HA
  isplitl [HB]; · iexact HB
  isplitl [HC]; · iexact HC
  isplitl [Hs HQ HP]
  · isplitl [Hs HQ]
    · isplitl [Hs]; · iexact Hs
      iexact HQ
    iexact HP
  iexact Hall

/-- The load of a landing. -/
theorem st_load_got {α : Type} {Q : α → sProp 𝕄} (r : Fin 4) (o : Fin 7) (hnr : 7 * r.val + o.val < nr) {hl : cmM.view.LoadsAt (cmR r o).toLoadRect}
    {k : Vec F S1x1x128x256 .bf16 → Prog (TpuEff nD τ sig (Elt F) Λ₀ .tc) α}
    (h : St m ρ K c nst ns nw nr no ⊢ WP c (k (gotV m ρ c r o)) Q) :
    St m ρ K c nst ns nw nr no ⊢ WP c (.op (.load cmM (cmR r o).toLoadRect hl) k) Q := by
  obtain ⟨RC, eC, -⟩ := peel (recvPos m ρ c nr) (recvPos m ρ c nr) (r, o) fun _ _ => rfl
  have c1 : recvPos m ρ c nr (r, o) = iprop(atPos ER (recvCell c r o) 1 ∅ 0 ∗ cmPts c r o (cmV m ρ c)) := by
    unfold recvPos; rw [if_pos (by simpa only [ord] using hnr)]
  unfold St at h ⊢
  rw [eC, c1, cmPts_eq] at h ⊢
  iintro ⟨Hrec, Hin, Hout, HA, HB, ⟨⟨Hat, Hs⟩, HC⟩, Hall⟩
  iapply (wp_load_rect 𝒱₀ (c : Thread nD τ) none Set.univ (m := cmM) (r := cmR r o) (S := cmBlk r o) (by rw [acc_cm])) $$ Hs; iintro Hs
  iapply h
  isplitl [Hrec]; · iexact Hrec
  isplitl [Hin]; · iexact Hin
  isplitl [Hout]; · iexact Hout
  isplitl [HA]; · iexact HA
  isplitl [HB]; · iexact HB
  isplitl [Hat Hs HC]
  · isplitl [Hat Hs]
    · isplitl [Hat]; · iexact Hat
      iexact Hs
    iexact HC
  iexact Hall

/-- The load of the result, whose value nothing reads; -/
theorem st_load_out {α : Type} {Q : α → sProp 𝕄} {r : LoadRect S128x1024} {hl : oM.view.LoadsAt r}
    {k : Vec F r.shape .f32 → Prog (TpuEff nD τ sig (Elt F) Λ₀ .tc) α}
    (h : ∀ v, St m ρ K c nst ns nw nr no ⊢ WP c (k v) Q) :
    St m ρ K c nst ns nw nr no ⊢ WP c (.op (.load oM r hl) k) Q := by
  unfold St outPts at h ⊢
  iintro ⟨Hrec, Hin, ⟨%f, %hf, Hx⟩, Hall⟩
  iapply (wp_load 𝒱₀ (c : Thread nD τ) none Set.univ (m := oM) (Finset.subset_univ _)) $$ Hx; iintro Hx
  iapply (h _)
  isplitl [Hrec]; · iexact Hrec
  isplitl [Hin]; · iexact Hin
  isplitl [Hx]
  · iexists f; isplitr; · (ipureintro; exact hf)
    iexact Hx
  iexact Hall

/-- the store of a block of its columns. -/
theorem st_store_out {α : Type} {Q : α → sProp 𝕄} (r : Fin 4) (hno : no = r.val) {w : Vec F S128x256 .f32} (hw : w = sumV m ρ c r 7)
    {hx : (oM.access (outR r) : View sig .tc _ _ _).Stores Finset.univ} {hm : (Finset.univ : Finset (outR r).shape.Idx) = Finset.univ ∨ ∀ a, (outR r).stride a = 1}
    {k : PUnit → Prog (TpuEff nD τ sig (Elt F) Λ₀ .tc) α}
    (h : St m ρ K c nst ns nw nr (no + 1) ⊢ WP c (k ⟨⟩) Q) :
    St m ρ K c nst ns nw nr no ⊢ WP c (.op (.store oM (outR r) w Finset.univ hx hm) k) Q := by
  subst hw hno
  unfold St outPts at h ⊢
  iintro ⟨Hrec, Hin, ⟨%f, %hf, Hx⟩, Hall⟩
  iapply (wp_store 𝒱₀ (c : Thread nD τ) none Set.univ (m := oM) (r := outR r) (Mk := Finset.univ) (Finset.subset_univ _)) $$ Hx; iintro Hx
  iapply h
  isplitl [Hrec]; · iexact Hrec
  isplitl [Hin]; · iexact Hin
  isplitl [Hx]
  · iexists _; isplitr; · (ipureintro; exact out_write m ρ c r f hf)
    iexact Hx
  iexact Hall

/-- A signal of the handshake: the slots of one sender go to it. -/
theorem sb_signal {α : Type} {Q : α → sProp 𝕄} (o : Fin 7) {j : ℕ} (hj : j = o.val + 1) {n : Dev nD} (hn : n = src c o)
    {k : PUnit → Prog (TpuEff nD τ sig (Elt F) Λ₀ .tc) α}
    (h : Sb m ρ K c o.val ⊢ WP c (k ⟨⟩) Q) :
    Sb m ρ K c j ⊢ WP c (.op (.semSignal (Dev.tc n : Thread nD τ) barS 1) k) Q := by
  subst hj hn
  obtain ⟨RS, eS, eS'⟩ := peel (sigTok (F := F) c (o.val + 1)) (sigTok c o.val) o fun i hi => by
    have : i.val ≠ o.val := fun e => hi (Fin.ext e)
    have e : (i.val < o.val + 1) = (i.val < o.val) := propext (by omega)
    simp only [sigTok, e]
  have s1 : sigTok (F := F) c (o.val + 1) o = iprop(dutyTok ER (barCell (src c o)) 0 o ∗ ∃ f, bigSep Finset.univ fun r : Fin 4 => cmPts (F := F) c r o f) := by
    unfold sigTok; rw [if_pos (by omega)]
  have s2 : sigTok (F := F) c o.val o = iprop(emp) := by unfold sigTok; rw [if_neg (by omega)]
  have hO : OweC c 0 + OweB c (o.val + 1) = (OweC c 0 + OweB c o.val) + tallyAt (barCell (src c o)) () 1 := by
    rw [OweB_step, add_assoc]
  unfold Sb at h ⊢
  rw [eS, s1]
  rw [eS', s2] at h
  iintro ⟨#Hrec, Hin, Hout, HA, HB, HC, HP, ⟨%W, HO⟩, Hbar, ⟨⟨Htok, Hpay⟩, HS⟩, Hall⟩
  iapply (Rounds.wp_signal 𝒱₀ ER (Rd m ρ) (c : Thread nD τ) none (dst := (src c o : Thread nD τ)) (κ := K (src c o, none)) (r := 0)
      (d := o) (by exact Finset.mem_univ _) rfl () (OweC c 0 + OweB c o.val) hO) $$ [HO Htok Hpay]
  · isplitr; · iapply (inv_of m ρ K (src c o, none)); iexact Hrec
    isplitl [HO]; · iexact HO
    isplitl [Htok]; · iexact Htok
    isplitl [Hpay]
    · iapply (Entails.of_eq (show iprop(∃ f, bigSep Finset.univ fun r : Fin 4 => cmPts (F := F) c r o f) = (Rd m ρ).payload (barCell (src c o)) 0 o by
        show _ = barPay (F := F) (src c o) o
        unfold barPay; rw [tgt_src]))
      iexact Hpay
    iapply (reached_of m ρ K (src c o, none)); iexact Hrec
  iintro HO
  iapply h
  isplitr; · iexact Hrec
  isplitl [Hin]; · iexact Hin
  isplitl [Hout]; · iexact Hout
  isplitl [HA]; · iexact HA
  isplitl [HB]; · iexact HB
  isplitl [HC]; · iexact HC
  isplitl [HP]; · iexact HP
  isplitl [HO]; · iexists W; iexact HO
  isplitl [Hbar]; · iexact Hbar
  isplitl [HS]
  · isplitr; · iempintro
    iexact HS
  iexact Hall

/-- The copies' duties and the slots the handshake brings are what the copies need. -/
theorem sendTok_intro : iprop(bigSep Finset.univ (copyTok (F := F) c) ∗ bigSep Finset.univ fun o : Fin 7 => barPay (F := F) c o)
    ⊢ bigSep Finset.univ (sendTok (F := F) c 0) := by
  have h1 : (bigSep Finset.univ fun o : Fin 7 => barPay (F := F) c o)
      ⊢ bigSep Finset.univ fun i : Fin 4 × Fin 7 => iprop(∃ f, cmPts (F := F) (tgt c i.2) i.1 i.2 f) := by
    rw [bigSep_univ_equiv (Equiv.prodComm (Fin 7) (Fin 4)) fun i : Fin 4 × Fin 7 => iprop(∃ f, cmPts (F := F) (tgt c i.2) i.1 i.2 f), bigSep_univ_prod]
    refine bigSep_mono fun o _ => ?_
    show _ ⊢ bigSep Finset.univ fun r : Fin 4 => iprop(∃ f, cmPts (F := F) (tgt c o) r o f)
    have h2 (f) : (bigSep Finset.univ fun r : Fin 4 => cmPts (F := F) (tgt c o) r o f)
        ⊢ bigSep Finset.univ fun r : Fin 4 => iprop(∃ f, cmPts (F := F) (tgt c o) r o f) :=
      bigSep_mono fun r _ => (show cmPts (F := F) (tgt c o) r o f ⊢ iprop(∃ f, cmPts (F := F) (tgt c o) r o f) by iintro H; iexists f; iexact H)
    unfold barPay
    iintro ⟨%f, H⟩
    iapply (h2 f); iexact H
  refine (sep_mono_right h1).trans ?_
  rw [← bigSep_sep']
  have h3 (i : Fin 4 × Fin 7) : iprop(copyTok (F := F) c i ∗ ∃ f, cmPts (F := F) (tgt c i.2) i.1 i.2 f) ⊢ sendTok (F := F) c 0 i := by
    unfold copyTok sendTok
    rw [if_neg (by omega)]
    iintro ⟨⟨H1, H2⟩, H3⟩
    isplitl [H1]; · iexact H1
    isplitl [H2]; · iexact H2
    iexact H3
  exact bigSep_mono fun i _ => h3 i

/-- The handshake's wait: every receiver's slots are there. -/
theorem sb_wait {α : Type} {Q : α → sProp 𝕄} {k : PUnit → Prog (TpuEff nD τ sig (Elt F) Λ₀ .tc) α}
    (h : St m ρ K c 0 0 0 0 0 ⊢ WP c (k ⟨⟩) Q) :
    Sb m ρ K c 0 ⊢ WP c (.op (.semWait barS 7) k) Q := by
  unfold Sb
  unfold St at h
  rw [OweB_zero, add_zero]
  iintro ⟨#Hrec, Hin, Hout, HA, HB, HC, HP, ⟨%W, HO⟩, Hbar, -, Hcr, #Hlev⟩
  iapply (Rounds.wp_wait_rest_token 𝒱₀ ER (Rd m ρ) (c : Thread nD τ) none (κ := K (c, none))
      (wpE_semWait_eq 𝒱₀ (c : Thread nD τ) none Set.univ) (Set.mem_univ _) () (O := OweC c 0) (W := W) (R := 0) (m := 0) (T := ∅)
      (by rw [show (((c : Thread nD τ), SemLoc.reg barS) : GSem nD τ sig) = barCell c from rfl, expect_bar])) $$ [Hcr HO Hbar]
  · isplitr; · iapply (inv_of m ρ K (c, none)); iexact Hrec
    isplitl [Hcr]; · iexact Hcr
    isplitl [HO]; · iexact HO
    isplitr; · iapply (mayWait_bar c); iexact Hlev
    iexact Hbar
  iintro ⟨HO, Hbar, -, Hpay⟩
  ihave Hpay := (Entails.of_eq (rest_bar m ρ c)) $$ Hpay
  iapply h
  isplitr; · iexact Hrec
  isplitl [Hin]; · iexact Hin
  isplitl [Hout]; · iexact Hout
  isplitl [HA Hpay]
  · iapply (sendTok_intro c)
    isplitl [HA]; · iexact HA
    iexact Hpay
  isplitl [HB]; · iexact HB
  isplitl [HC]; · iexact HC
  isplitl [HP]; · iexact HP
  isplitl [HO]; · iexists _; iexact HO
  iexact Hbar

end Steps

end Cert.MoeProof

end
-- ==== Proof.Parts.lean ====
/-
The parts of the body, one after the other, each from the state it starts in to the one it ends in, and the body.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

theorem st_ret {S : sProp 𝕄} {α : Type} {Q : α → sProp 𝕄} {v : α} (h : S ⊢ Q v) : S ⊢ WP c (.ret v) Q := by
  show S ⊢ wp frame (wpE (defs₀ (F := F)) 𝒱₀ (c : Thread nD τ) none) Set.univ (.ret v) Q
  rw [wp_ret]
  exact h.trans fupd_intro
theorem st_dev {S : sProp 𝕄} {α : Type} {Q : α → sProp 𝕄} {k : Dev nD → Prog (TpuEff nD τ sig (Elt F) Λ₀ .tc) α} (h : S ⊢ WP c (k c) Q) :
    S ⊢ WP c (.op .deviceId k) Q := by
  show S ⊢ wp frame (wpE (defs₀ (F := F)) 𝒱₀ (c : Thread nD τ) none) Set.univ (.op .deviceId k) Q
  rw [wp_deviceId]; exact h
theorem st_bind {S : sProp 𝕄} {α β : Type} {Q : β → sProp 𝕄} {p : Prog (TpuEff nD τ sig (Elt F) Λ₀ .tc) α} {f : α → Prog (TpuEff nD τ sig (Elt F) Λ₀ .tc) β}
    (h : S ⊢ WP c p fun v => WP c (f v) Q) : S ⊢ WP c (p >>= f) Q := by
  show S ⊢ wp frame (wpE (defs₀ (F := F)) 𝒱₀ (c : Thread nD τ) none) Set.univ (p >>= f) Q
  rw [wp_bind]; exact h

theorem slab_pay0 : k0_pay10 (xg0 m ρ c) (xg1 m ρ c) (xg2 m ρ c) (xg3 m ρ c) zc (ldE m ρ c 0 0) (ldE m ρ c 0 1) (ldE m ρ c 0 2) (ldE m ρ c 0 3) = slabV m ρ c 0 := rfl
theorem slab_pay1 : k0_pay11 (xg0 m ρ c) (xg1 m ρ c) (xg2 m ρ c) (xg3 m ρ c) zc (ldE m ρ c 1 0) (ldE m ρ c 1 1) (ldE m ρ c 1 2) (ldE m ρ c 1 3) = slabV m ρ c 1 := rfl
theorem slab_pay2 : k0_pay12 (xg0 m ρ c) (xg1 m ρ c) (xg2 m ρ c) (xg3 m ρ c) zc (ldE m ρ c 2 0) (ldE m ρ c 2 1) (ldE m ρ c 2 2) (ldE m ρ c 2 3) = slabV m ρ c 2 := rfl
theorem slab_pay3 : k0_pay13 (xg0 m ρ c) (xg1 m ρ c) (xg2 m ρ c) (xg3 m ρ c) zc (ldE m ρ c 3 0) (ldE m ρ c 3 1) (ldE m ρ c 3 2) (ldE m ρ c 3 3) = slabV m ρ c 3 := rfl

theorem part1_run {Q : (Σ' (d0 : Dev nD) (v2 : BitVec 32) (v3 : Sems sig S_) (v24 : BitVec 32), BitVec 32) → sProp 𝕄}
    (h : Sb m ρ K c 2 ⊢ Q ⟨c, qw c, SemArray.scalar (sig.barrier 0 rfl), Scalar.addi (qw c) 6#32, 8#32⟩) :
    Sb m ρ K c 7 ⊢ WP c (k0_part1 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 ) Q := by
  rw [k0_part1_eq_skeleton]; unfold k0_part1_skel
  simp only [semSignalWord, semWaitWord, Prog.lift, Prog.bind_op, Prog.bind_ret, Prog.pure_eq_ret]
  refine st_dev c ?_
  refine sb_signal m ρ K c 6 (by rfl) (by exact dev1_eq c) ?_
  refine sb_signal m ρ K c 5 (by rfl) (by exact dev2_eq c) ?_
  refine sb_signal m ρ K c 4 (by rfl) (by exact dev3_eq c) ?_
  refine sb_signal m ρ K c 3 (by rfl) (by exact dev4_eq c) ?_
  refine sb_signal m ρ K c 2 (by rfl) (by exact dev5_eq c) ?_
  exact st_ret c h

theorem part2_run {Q : (Σ' (v33 : FVec F S1024x512 .f32) (v46 : IVec S1024x32 32) (v57 : FVec F S1024x32 .f32), FVec F S1024 .f32) → sProp 𝕄} (v24 : BitVec 32) (c8_i32_20 : BitVec 32)
    (h : St m ρ K c 0 0 0 0 0 ⊢ Q ⟨(k0_pay2 (ldX m ρ c)), iotaV, (k0_pay3 (ldX m ρ c) (ldW m ρ c) (ldI0 m ρ c) (ldI1 m ρ c)), (k0_pay4 (ldX m ρ c) (ldW m ρ c) (ldI0 m ρ c) (ldI1 m ρ c))⟩) :
    Sb m ρ K c 2 ⊢ WP c (k0_part2 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c) (SemArray.scalar (sig.barrier 0 rfl)) v24 c8_i32_20) Q := by
  rw [k0_part2_eq_skeleton]; unfold k0_part2_skel
  simp only [semSignalWord, semWaitWord, Prog.lift, Prog.bind_op, Prog.bind_ret, Prog.pure_eq_ret]
  refine sb_signal m ρ K c 1 (by rfl) (by exact dev6_eq c) ?_
  refine sb_signal m ρ K c 0 (by rfl) (by exact dev7_eq c) ?_
  refine sb_wait m ρ K c ?_
  refine st_load_x m ρ K c ?_
  refine st_load_w m ρ K c ?_
  refine st_load_i m ρ K c ?_
  refine st_load_i m ρ K c ?_
  exact st_ret c h

theorem part3_run {Q : (Σ' (v71 : FVec F S1024x512 .f32) (v81 : FVec F S1024x512 .f32) (v91 : FVec F S1024x512 .f32) (v101 : FVec F S1024x512 .f32), F .f32) → sProp 𝕄}
    (h : St m ρ K c 0 0 0 0 0 ⊢ Q ⟨(xg0 m ρ c), (xg1 m ρ c), (xg2 m ρ c), (xg3 m ρ c), zc⟩) :
    St m ρ K c 0 0 0 0 0 ⊢ WP c (k0_part3 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 (qw c) (k0_pay2 (ldX m ρ c)) iotaV (k0_pay3 (ldX m ρ c) (ldW m ρ c) (ldI0 m ρ c) (ldI1 m ρ c)) (k0_pay4 (ldX m ρ c) (ldW m ρ c) (ldI0 m ρ c) (ldI1 m ρ c))) Q := by
  rw [k0_part3_eq_skeleton]; unfold k0_part3_skel
  simp only [semSignalWord, semWaitWord, Prog.lift, Prog.bind_op, Prog.bind_ret, Prog.pure_eq_ret]
  exact st_ret c h

theorem part4_run {Q : (BitVec 32) → sProp 𝕄}
    (h : ∀ (w0 : BitVec 32), St m ρ K c 1 0 0 0 0 ⊢ Q w0) :
    St m ρ K c 0 0 0 0 0 ⊢ WP c (k0_part4 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 (qw c) (xg0 m ρ c) (xg1 m ρ c) (xg2 m ρ c) (xg3 m ρ c) zc) Q := by
  rw [k0_part4_eq_skeleton]; unfold k0_part4_skel
  simp only [semSignalWord, semWaitWord, Prog.lift, Prog.bind_op, Prog.bind_ret, Prog.pure_eq_ret]
  refine st_load_e m ρ K c ?_
  refine st_load_e m ρ K c ?_
  refine st_load_e m ρ K c ?_
  refine st_load_e m ρ K c ?_
  refine st_load_slab m ρ K c 0 (by rfl) fun _ => ?_
  refine st_store_slab m ρ K c 0 (by rfl) (by decide) (by exact slab_pay0 m ρ c) ?_
  exact st_ret c (h _)

theorem part5_run {Q : (Σ' (v137 : BitVec 32), BitVec 32) → sProp 𝕄}
    (h : ∀ (w0 : BitVec 32) (w1 : BitVec 32), St m ρ K c 1 2 0 0 0 ⊢ Q ⟨w0, w1⟩) :
    St m ρ K c 1 0 0 0 0 ⊢ WP c (k0_part5 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part5_eq_skeleton]; unfold k0_part5_skel
  simp only [semSignalWord, semWaitWord, Prog.lift, Prog.bind_op, Prog.bind_ret, Prog.pure_eq_ret]
  refine st_send m ρ K c 0 0 (by rfl) (by decide) (by decide) (by exact dev8_eq c) (by exact psSl_of_off 0 (tgt c 0) _ _ (off1_eq c 0)) ?_
  refine st_send m ρ K c 0 1 (by rfl) (by decide) (by decide) (by exact dev9_eq c) (by exact psSl_of_off 0 (tgt c 1) _ _ (off1_eq c 1)) ?_
  exact st_ret c (h _ _)

theorem part6_run {Q : (Σ' (v161 : BitVec 32), BitVec 32) → sProp 𝕄}
    (h : ∀ (w0 : BitVec 32) (w1 : BitVec 32), St m ρ K c 1 4 0 0 0 ⊢ Q ⟨w0, w1⟩) :
    St m ρ K c 1 2 0 0 0 ⊢ WP c (k0_part6 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part6_eq_skeleton]; unfold k0_part6_skel
  simp only [semSignalWord, semWaitWord, Prog.lift, Prog.bind_op, Prog.bind_ret, Prog.pure_eq_ret]
  refine st_send m ρ K c 0 2 (by rfl) (by decide) (by decide) (by exact dev10_eq c) (by exact psSl_of_off 0 (tgt c 2) _ _ (off1_eq c 2)) ?_
  refine st_send m ρ K c 0 3 (by rfl) (by decide) (by decide) (by exact dev11_eq c) (by exact psSl_of_off 0 (tgt c 3) _ _ (off1_eq c 3)) ?_
  exact st_ret c (h _ _)

theorem part7_run {Q : (Σ' (v185 : BitVec 32) (v197 : BitVec 32), F .f32) → sProp 𝕄}
    (h : ∀ (w0 : BitVec 32) (w1 : BitVec 32), St m ρ K c 1 7 0 0 0 ⊢ Q ⟨w0, w1, zc⟩) :
    St m ρ K c 1 4 0 0 0 ⊢ WP c (k0_part7 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part7_eq_skeleton]; unfold k0_part7_skel
  simp only [semSignalWord, semWaitWord, Prog.lift, Prog.bind_op, Prog.bind_ret, Prog.pure_eq_ret]
  refine st_send m ρ K c 0 4 (by rfl) (by decide) (by decide) (by exact dev12_eq c) (by exact psSl_of_off 0 (tgt c 4) _ _ (off1_eq c 4)) ?_
  refine st_send m ρ K c 0 5 (by rfl) (by decide) (by decide) (by exact dev13_eq c) (by exact psSl_of_off 0 (tgt c 5) _ _ (off1_eq c 5)) ?_
  refine st_send m ρ K c 0 6 (by rfl) (by decide) (by decide) (by exact dev14_eq c) (by exact psSl_of_off 0 (tgt c 6) _ _ (off1_eq c 6)) ?_
  exact st_ret c (h _ _)

theorem part8_run {Q : (BitVec 32) → sProp 𝕄}
    (h : ∀ (w0 : BitVec 32), St m ρ K c 2 7 0 0 0 ⊢ Q w0) :
    St m ρ K c 1 7 0 0 0 ⊢ WP c (k0_part8 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 (qw c) (xg0 m ρ c) (xg1 m ρ c) (xg2 m ρ c) (xg3 m ρ c) zc) Q := by
  rw [k0_part8_eq_skeleton]; unfold k0_part8_skel
  simp only [semSignalWord, semWaitWord, Prog.lift, Prog.bind_op, Prog.bind_ret, Prog.pure_eq_ret]
  refine st_load_e m ρ K c ?_
  refine st_load_e m ρ K c ?_
  refine st_load_e m ρ K c ?_
  refine st_load_e m ρ K c ?_
  refine st_load_slab m ρ K c 1 (by rfl) fun _ => ?_
  refine st_store_slab m ρ K c 1 (by rfl) (by decide) (by exact slab_pay1 m ρ c) ?_
  exact st_ret c (h _)

theorem part9_run {Q : (Σ' (v243 : BitVec 32), BitVec 32) → sProp 𝕄}
    (h : ∀ (w0 : BitVec 32) (w1 : BitVec 32), St m ρ K c 2 9 0 0 0 ⊢ Q ⟨w0, w1⟩) :
    St m ρ K c 2 7 0 0 0 ⊢ WP c (k0_part9 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part9_eq_skeleton]; unfold k0_part9_skel
  simp only [semSignalWord, semWaitWord, Prog.lift, Prog.bind_op, Prog.bind_ret, Prog.pure_eq_ret]
  refine st_send m ρ K c 1 0 (by rfl) (by decide) (by decide) (by exact dev15_eq c) (by exact psSl_of_off 1 (tgt c 0) _ _ (off2_eq c 0)) ?_
  refine st_send m ρ K c 1 1 (by rfl) (by decide) (by decide) (by exact dev16_eq c) (by exact psSl_of_off 1 (tgt c 1) _ _ (off2_eq c 1)) ?_
  exact st_ret c (h _ _)

theorem part10_run {Q : (Σ' (v267 : BitVec 32), BitVec 32) → sProp 𝕄}
    (h : ∀ (w0 : BitVec 32) (w1 : BitVec 32), St m ρ K c 2 11 0 0 0 ⊢ Q ⟨w0, w1⟩) :
    St m ρ K c 2 9 0 0 0 ⊢ WP c (k0_part10 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part10_eq_skeleton]; unfold k0_part10_skel
  simp only [semSignalWord, semWaitWord, Prog.lift, Prog.bind_op, Prog.bind_ret, Prog.pure_eq_ret]
  refine st_send m ρ K c 1 2 (by rfl) (by decide) (by decide) (by exact dev17_eq c) (by exact psSl_of_off 1 (tgt c 2) _ _ (off2_eq c 2)) ?_
  refine st_send m ρ K c 1 3 (by rfl) (by decide) (by decide) (by exact dev18_eq c) (by exact psSl_of_off 1 (tgt c 3) _ _ (off2_eq c 3)) ?_
  exact st_ret c (h _ _)

theorem part11_run {Q : (Σ' (v291 : BitVec 32) (v303 : BitVec 32), F .f32) → sProp 𝕄}
    (h : ∀ (w0 : BitVec 32) (w1 : BitVec 32), St m ρ K c 2 14 0 0 0 ⊢ Q ⟨w0, w1, zc⟩) :
    St m ρ K c 2 11 0 0 0 ⊢ WP c (k0_part11 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part11_eq_skeleton]; unfold k0_part11_skel
  simp only [semSignalWord, semWaitWord, Prog.lift, Prog.bind_op, Prog.bind_ret, Prog.pure_eq_ret]
  refine st_send m ρ K c 1 4 (by rfl) (by decide) (by decide) (by exact dev19_eq c) (by exact psSl_of_off 1 (tgt c 4) _ _ (off2_eq c 4)) ?_
  refine st_send m ρ K c 1 5 (by rfl) (by decide) (by decide) (by exact dev20_eq c) (by exact psSl_of_off 1 (tgt c 5) _ _ (off2_eq c 5)) ?_
  refine st_send m ρ K c 1 6 (by rfl) (by decide) (by decide) (by exact dev21_eq c) (by exact psSl_of_off 1 (tgt c 6) _ _ (off2_eq c 6)) ?_
  exact st_ret c (h _ _)

theorem part12_run {Q : (BitVec 32) → sProp 𝕄}
    (h : ∀ (w0 : BitVec 32), St m ρ K c 3 14 0 0 0 ⊢ Q w0) :
    St m ρ K c 2 14 0 0 0 ⊢ WP c (k0_part12 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 (qw c) (xg0 m ρ c) (xg1 m ρ c) (xg2 m ρ c) (xg3 m ρ c) zc) Q := by
  rw [k0_part12_eq_skeleton]; unfold k0_part12_skel
  simp only [semSignalWord, semWaitWord, Prog.lift, Prog.bind_op, Prog.bind_ret, Prog.pure_eq_ret]
  refine st_load_e m ρ K c ?_
  refine st_load_e m ρ K c ?_
  refine st_load_e m ρ K c ?_
  refine st_load_e m ρ K c ?_
  refine st_load_slab m ρ K c 2 (by rfl) fun _ => ?_
  refine st_store_slab m ρ K c 2 (by rfl) (by decide) (by exact slab_pay2 m ρ c) ?_
  exact st_ret c (h _)

theorem part13_run {Q : (Σ' (v349 : BitVec 32), BitVec 32) → sProp 𝕄}
    (h : ∀ (w0 : BitVec 32) (w1 : BitVec 32), St m ρ K c 3 16 0 0 0 ⊢ Q ⟨w0, w1⟩) :
    St m ρ K c 3 14 0 0 0 ⊢ WP c (k0_part13 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part13_eq_skeleton]; unfold k0_part13_skel
  simp only [semSignalWord, semWaitWord, Prog.lift, Prog.bind_op, Prog.bind_ret, Prog.pure_eq_ret]
  refine st_send m ρ K c 2 0 (by rfl) (by decide) (by decide) (by exact dev22_eq c) (by exact psSl_of_off 2 (tgt c 0) _ _ (off3_eq c 0)) ?_
  refine st_send m ρ K c 2 1 (by rfl) (by decide) (by decide) (by exact dev23_eq c) (by exact psSl_of_off 2 (tgt c 1) _ _ (off3_eq c 1)) ?_
  exact st_ret c (h _ _)

theorem part14_run {Q : (Σ' (v373 : BitVec 32), BitVec 32) → sProp 𝕄}
    (h : ∀ (w0 : BitVec 32) (w1 : BitVec 32), St m ρ K c 3 18 0 0 0 ⊢ Q ⟨w0, w1⟩) :
    St m ρ K c 3 16 0 0 0 ⊢ WP c (k0_part14 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part14_eq_skeleton]; unfold k0_part14_skel
  simp only [semSignalWord, semWaitWord, Prog.lift, Prog.bind_op, Prog.bind_ret, Prog.pure_eq_ret]
  refine st_send m ρ K c 2 2 (by rfl) (by decide) (by decide) (by exact dev24_eq c) (by exact psSl_of_off 2 (tgt c 2) _ _ (off3_eq c 2)) ?_
  refine st_send m ρ K c 2 3 (by rfl) (by decide) (by decide) (by exact dev25_eq c) (by exact psSl_of_off 2 (tgt c 3) _ _ (off3_eq c 3)) ?_
  exact st_ret c (h _ _)

theorem part15_run {Q : (Σ' (v397 : BitVec 32) (v409 : BitVec 32), F .f32) → sProp 𝕄}
    (h : ∀ (w0 : BitVec 32) (w1 : BitVec 32), St m ρ K c 3 21 0 0 0 ⊢ Q ⟨w0, w1, zc⟩) :
    St m ρ K c 3 18 0 0 0 ⊢ WP c (k0_part15 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part15_eq_skeleton]; unfold k0_part15_skel
  simp only [semSignalWord, semWaitWord, Prog.lift, Prog.bind_op, Prog.bind_ret, Prog.pure_eq_ret]
  refine st_send m ρ K c 2 4 (by rfl) (by decide) (by decide) (by exact dev26_eq c) (by exact psSl_of_off 2 (tgt c 4) _ _ (off3_eq c 4)) ?_
  refine st_send m ρ K c 2 5 (by rfl) (by decide) (by decide) (by exact dev27_eq c) (by exact psSl_of_off 2 (tgt c 5) _ _ (off3_eq c 5)) ?_
  refine st_send m ρ K c 2 6 (by rfl) (by decide) (by decide) (by exact dev28_eq c) (by exact psSl_of_off 2 (tgt c 6) _ _ (off3_eq c 6)) ?_
  exact st_ret c (h _ _)

theorem part16_run {Q : (BitVec 32) → sProp 𝕄}
    (h : ∀ (w0 : BitVec 32), St m ρ K c 4 21 0 0 0 ⊢ Q w0) :
    St m ρ K c 3 21 0 0 0 ⊢ WP c (k0_part16 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 (qw c) (xg0 m ρ c) (xg1 m ρ c) (xg2 m ρ c) (xg3 m ρ c) zc) Q := by
  rw [k0_part16_eq_skeleton]; unfold k0_part16_skel
  simp only [semSignalWord, semWaitWord, Prog.lift, Prog.bind_op, Prog.bind_ret, Prog.pure_eq_ret]
  refine st_load_e m ρ K c ?_
  refine st_load_e m ρ K c ?_
  refine st_load_e m ρ K c ?_
  refine st_load_e m ρ K c ?_
  refine st_load_slab m ρ K c 3 (by rfl) fun _ => ?_
  refine st_store_slab m ρ K c 3 (by rfl) (by decide) (by exact slab_pay3 m ρ c) ?_
  exact st_ret c (h _)

theorem part17_run {Q : (Σ' (v455 : BitVec 32), BitVec 32) → sProp 𝕄}
    (h : ∀ (w0 : BitVec 32) (w1 : BitVec 32), St m ρ K c 4 23 0 0 0 ⊢ Q ⟨w0, w1⟩) :
    St m ρ K c 4 21 0 0 0 ⊢ WP c (k0_part17 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part17_eq_skeleton]; unfold k0_part17_skel
  simp only [semSignalWord, semWaitWord, Prog.lift, Prog.bind_op, Prog.bind_ret, Prog.pure_eq_ret]
  refine st_send m ρ K c 3 0 (by rfl) (by decide) (by decide) (by exact dev29_eq c) (by exact psSl_of_off 3 (tgt c 0) _ _ (off4_eq c 0)) ?_
  refine st_send m ρ K c 3 1 (by rfl) (by decide) (by decide) (by exact dev30_eq c) (by exact psSl_of_off 3 (tgt c 1) _ _ (off4_eq c 1)) ?_
  exact st_ret c (h _ _)

theorem part18_run {Q : (Σ' (v479 : BitVec 32), BitVec 32) → sProp 𝕄}
    (h : ∀ (w0 : BitVec 32) (w1 : BitVec 32), St m ρ K c 4 25 0 0 0 ⊢ Q ⟨w0, w1⟩) :
    St m ρ K c 4 23 0 0 0 ⊢ WP c (k0_part18 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part18_eq_skeleton]; unfold k0_part18_skel
  simp only [semSignalWord, semWaitWord, Prog.lift, Prog.bind_op, Prog.bind_ret, Prog.pure_eq_ret]
  refine st_send m ρ K c 3 2 (by rfl) (by decide) (by decide) (by exact dev31_eq c) (by exact psSl_of_off 3 (tgt c 2) _ _ (off4_eq c 2)) ?_
  refine st_send m ρ K c 3 3 (by rfl) (by decide) (by decide) (by exact dev32_eq c) (by exact psSl_of_off 3 (tgt c 3) _ _ (off4_eq c 3)) ?_
  exact st_ret c (h _ _)

theorem part19_run {Q : (Σ' (v503 : BitVec 32), BitVec 32) → sProp 𝕄}
    (h : ∀ (w0 : BitVec 32) (w1 : BitVec 32), St m ρ K c 4 28 0 0 0 ⊢ Q ⟨w0, w1⟩) :
    St m ρ K c 4 25 0 0 0 ⊢ WP c (k0_part19 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c)) Q := by
  rw [k0_part19_eq_skeleton]; unfold k0_part19_skel
  simp only [semSignalWord, semWaitWord, Prog.lift, Prog.bind_op, Prog.bind_ret, Prog.pure_eq_ret]
  refine st_send m ρ K c 3 4 (by rfl) (by decide) (by decide) (by exact dev33_eq c) (by exact psSl_of_off 3 (tgt c 4) _ _ (off4_eq c 4)) ?_
  refine st_send m ρ K c 3 5 (by rfl) (by decide) (by decide) (by exact dev34_eq c) (by exact psSl_of_off 3 (tgt c 5) _ _ (off4_eq c 5)) ?_
  refine st_send m ρ K c 3 6 (by rfl) (by decide) (by decide) (by exact dev35_eq c) (by exact psSl_of_off 3 (tgt c 6) _ _ (off4_eq c 6)) ?_
  exact st_ret c (h _ _)

theorem part20_run {Q : (FVec F S128x256 .f32) → sProp 𝕄} (v125 : BitVec 32)
    (h : St m ρ K c 4 28 1 1 0 ⊢ Q (sumV m ρ c 0 1)) :
    St m ρ K c 4 28 0 0 0 ⊢ WP c (k0_part20 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c) v125) Q := by
  rw [k0_part20_eq_skeleton]; unfold k0_part20_skel
  simp only [semSignalWord, semWaitWord, Prog.lift, Prog.bind_op, Prog.bind_ret, Prog.pure_eq_ret]
  refine st_load_own m ρ K c 0 (by decide) (by exact off5_eq c) ?_
  refine st_send_wait m ρ K c 0 0 (by rfl) (by rfl) (by decide) (by rfl) ?_
  refine st_recv_wait m ρ K c 0 0 (by rfl) (by rfl) (by rfl) ?_
  refine st_load_got m ρ K c 0 0 (by decide) ?_
  exact st_ret c h

theorem part21_run {Q : (FVec F S128x256 .f32) → sProp 𝕄} (v137 : BitVec 32)
    (h : St m ρ K c 4 28 2 2 0 ⊢ Q (sumV m ρ c 0 2)) :
    St m ρ K c 4 28 1 1 0 ⊢ WP c (k0_part21 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v137 (sumV m ρ c 0 1)) Q := by
  rw [k0_part21_eq_skeleton]; unfold k0_part21_skel
  simp only [semSignalWord, semWaitWord, Prog.lift, Prog.bind_op, Prog.bind_ret, Prog.pure_eq_ret]
  refine st_send_wait m ρ K c 0 1 (by rfl) (by rfl) (by decide) (by rfl) ?_
  refine st_recv_wait m ρ K c 0 1 (by rfl) (by rfl) (by rfl) ?_
  refine st_load_got m ρ K c 0 1 (by decide) ?_
  exact st_ret c h

theorem part22_run {Q : (Σ' (v583 : FVec F S128x256 .f32), BitVec 32) → sProp 𝕄} (v149 : BitVec 32)
    (h : ∀ (w1 : BitVec 32), St m ρ K c 4 28 4 3 0 ⊢ Q ⟨(sumV m ρ c 0 3), w1⟩) :
    St m ρ K c 4 28 2 2 0 ⊢ WP c (k0_part22 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v149 (sumV m ρ c 0 2)) Q := by
  rw [k0_part22_eq_skeleton]; unfold k0_part22_skel
  simp only [semSignalWord, semWaitWord, Prog.lift, Prog.bind_op, Prog.bind_ret, Prog.pure_eq_ret]
  refine st_send_wait m ρ K c 0 2 (by rfl) (by rfl) (by decide) (by rfl) ?_
  refine st_recv_wait m ρ K c 0 2 (by rfl) (by rfl) (by rfl) ?_
  refine st_load_got m ρ K c 0 2 (by decide) ?_
  refine st_send_wait m ρ K c 0 3 (by rfl) (by rfl) (by decide) (by rfl) ?_
  exact st_ret c (h _)

theorem part23_run {Q : (FVec F S128x256 .f32) → sProp 𝕄} (v161 : BitVec 32) (v173 : BitVec 32) (c1_i32_663 : BitVec 32)
    (h : St m ρ K c 4 28 5 4 0 ⊢ Q (sumV m ρ c 0 4)) :
    St m ρ K c 4 28 4 3 0 ⊢ WP c (k0_part23 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v161 v173 (sumV m ρ c 0 3) c1_i32_663) Q := by
  rw [k0_part23_eq_skeleton]; unfold k0_part23_skel
  simp only [semSignalWord, semWaitWord, Prog.lift, Prog.bind_op, Prog.bind_ret, Prog.pure_eq_ret]
  refine st_recv_wait m ρ K c 0 3 (by rfl) (by rfl) (by rfl) ?_
  refine st_load_got m ρ K c 0 3 (by decide) ?_
  refine st_send_wait m ρ K c 0 4 (by rfl) (by rfl) (by decide) (by rfl) ?_
  exact st_ret c h

theorem part24_run {Q : (FVec F S128x256 .f32) → sProp 𝕄} (v185 : BitVec 32)
    (h : St m ρ K c 4 28 6 6 0 ⊢ Q (sumV m ρ c 0 6)) :
    St m ρ K c 4 28 5 4 0 ⊢ WP c (k0_part24 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v185 (sumV m ρ c 0 4)) Q := by
  rw [k0_part24_eq_skeleton]; unfold k0_part24_skel
  simp only [semSignalWord, semWaitWord, Prog.lift, Prog.bind_op, Prog.bind_ret, Prog.pure_eq_ret]
  refine st_recv_wait m ρ K c 0 4 (by rfl) (by rfl) (by rfl) ?_
  refine st_load_got m ρ K c 0 4 (by decide) ?_
  refine st_send_wait m ρ K c 0 5 (by rfl) (by rfl) (by decide) (by rfl) ?_
  refine st_recv_wait m ρ K c 0 5 (by rfl) (by rfl) (by rfl) ?_
  refine st_load_got m ρ K c 0 5 (by decide) ?_
  exact st_ret c h

theorem part25_run {Q : (FVec F S128x256 .f32) → sProp 𝕄} (v197 : BitVec 32)
    (h : St m ρ K c 4 28 7 7 1 ⊢ Q (sumV m ρ c 1 0)) :
    St m ρ K c 4 28 6 6 0 ⊢ WP c (k0_part25 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c) v197 (sumV m ρ c 0 6)) Q := by
  rw [k0_part25_eq_skeleton]; unfold k0_part25_skel
  simp only [semSignalWord, semWaitWord, Prog.lift, Prog.bind_op, Prog.bind_ret, Prog.pure_eq_ret]
  refine st_send_wait m ρ K c 0 6 (by rfl) (by rfl) (by decide) (by rfl) ?_
  refine st_recv_wait m ρ K c 0 6 (by rfl) (by rfl) (by rfl) ?_
  refine st_load_got m ρ K c 0 6 (by decide) ?_
  refine st_load_out m ρ K c fun _ => ?_
  refine st_store_out m ρ K c 0 (by rfl) (by rfl) ?_
  refine st_load_own m ρ K c 1 (by decide) (by exact off6_eq c) ?_
  exact st_ret c h

theorem part26_run {Q : (FVec F S128x256 .f32) → sProp 𝕄} (v231 : BitVec 32)
    (h : St m ρ K c 4 28 8 8 1 ⊢ Q (sumV m ρ c 1 1)) :
    St m ρ K c 4 28 7 7 1 ⊢ WP c (k0_part26 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v231 (sumV m ρ c 1 0)) Q := by
  rw [k0_part26_eq_skeleton]; unfold k0_part26_skel
  simp only [semSignalWord, semWaitWord, Prog.lift, Prog.bind_op, Prog.bind_ret, Prog.pure_eq_ret]
  refine st_send_wait m ρ K c 1 0 (by rfl) (by rfl) (by decide) (by rfl) ?_
  refine st_recv_wait m ρ K c 1 0 (by rfl) (by rfl) (by rfl) ?_
  refine st_load_got m ρ K c 1 0 (by decide) ?_
  exact st_ret c h

theorem part27_run {Q : (FVec F S128x256 .f32) → sProp 𝕄} (v243 : BitVec 32)
    (h : St m ρ K c 4 28 10 9 1 ⊢ Q (sumV m ρ c 1 2)) :
    St m ρ K c 4 28 8 8 1 ⊢ WP c (k0_part27 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v243 (sumV m ρ c 1 1)) Q := by
  rw [k0_part27_eq_skeleton]; unfold k0_part27_skel
  simp only [semSignalWord, semWaitWord, Prog.lift, Prog.bind_op, Prog.bind_ret, Prog.pure_eq_ret]
  refine st_send_wait m ρ K c 1 1 (by rfl) (by rfl) (by decide) (by rfl) ?_
  refine st_recv_wait m ρ K c 1 1 (by rfl) (by rfl) (by rfl) ?_
  refine st_load_got m ρ K c 1 1 (by decide) ?_
  refine st_send_wait m ρ K c 1 2 (by rfl) (by rfl) (by decide) (by rfl) ?_
  exact st_ret c h

theorem part28_run {Q : (FVec F S128x256 .f32) → sProp 𝕄} (v255 : BitVec 32) (v267 : BitVec 32)
    (h : St m ρ K c 4 28 11 10 1 ⊢ Q (sumV m ρ c 1 3)) :
    St m ρ K c 4 28 10 9 1 ⊢ WP c (k0_part28 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v255 v267 (sumV m ρ c 1 2)) Q := by
  rw [k0_part28_eq_skeleton]; unfold k0_part28_skel
  simp only [semSignalWord, semWaitWord, Prog.lift, Prog.bind_op, Prog.bind_ret, Prog.pure_eq_ret]
  refine st_recv_wait m ρ K c 1 2 (by rfl) (by rfl) (by rfl) ?_
  refine st_load_got m ρ K c 1 2 (by decide) ?_
  refine st_send_wait m ρ K c 1 3 (by rfl) (by rfl) (by decide) (by rfl) ?_
  exact st_ret c h

theorem part29_run {Q : (FVec F S128x256 .f32) → sProp 𝕄} (v279 : BitVec 32)
    (h : St m ρ K c 4 28 12 12 1 ⊢ Q (sumV m ρ c 1 4)) :
    St m ρ K c 4 28 11 10 1 ⊢ WP c (k0_part29 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v279 (sumV m ρ c 1 3)) Q := by
  rw [k0_part29_eq_skeleton]; unfold k0_part29_skel
  simp only [semSignalWord, semWaitWord, Prog.lift, Prog.bind_op, Prog.bind_ret, Prog.pure_eq_ret]
  refine st_recv_wait m ρ K c 1 3 (by rfl) (by rfl) (by rfl) ?_
  refine st_load_got m ρ K c 1 3 (by decide) ?_
  refine st_send_wait m ρ K c 1 4 (by rfl) (by rfl) (by decide) (by rfl) ?_
  refine st_recv_wait m ρ K c 1 4 (by rfl) (by rfl) (by rfl) ?_
  exact st_ret c h

theorem part30_run {Q : (FVec F S128x256 .f32) → sProp 𝕄} (v291 : BitVec 32)
    (h : St m ρ K c 4 28 13 13 1 ⊢ Q (sumV m ρ c 1 6)) :
    St m ρ K c 4 28 12 12 1 ⊢ WP c (k0_part30 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v291 (sumV m ρ c 1 4)) Q := by
  rw [k0_part30_eq_skeleton]; unfold k0_part30_skel
  simp only [semSignalWord, semWaitWord, Prog.lift, Prog.bind_op, Prog.bind_ret, Prog.pure_eq_ret]
  refine st_load_got m ρ K c 1 4 (by decide) ?_
  refine st_send_wait m ρ K c 1 5 (by rfl) (by rfl) (by decide) (by rfl) ?_
  refine st_recv_wait m ρ K c 1 5 (by rfl) (by rfl) (by rfl) ?_
  refine st_load_got m ρ K c 1 5 (by decide) ?_
  exact st_ret c h

theorem part31_run {Q : (FVec F S128x256 .f32) → sProp 𝕄} (v303 : BitVec 32)
    (h : St m ρ K c 4 28 14 14 2 ⊢ Q (sumV m ρ c 2 0)) :
    St m ρ K c 4 28 13 13 1 ⊢ WP c (k0_part31 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c) v303 (sumV m ρ c 1 6)) Q := by
  rw [k0_part31_eq_skeleton]; unfold k0_part31_skel
  simp only [semSignalWord, semWaitWord, Prog.lift, Prog.bind_op, Prog.bind_ret, Prog.pure_eq_ret]
  refine st_send_wait m ρ K c 1 6 (by rfl) (by rfl) (by decide) (by rfl) ?_
  refine st_recv_wait m ρ K c 1 6 (by rfl) (by rfl) (by rfl) ?_
  refine st_load_got m ρ K c 1 6 (by decide) ?_
  refine st_load_out m ρ K c fun _ => ?_
  refine st_store_out m ρ K c 1 (by rfl) (by rfl) ?_
  refine st_load_own m ρ K c 2 (by decide) (by exact off7_eq c) ?_
  exact st_ret c h

theorem part32_run {Q : (FVec F S128x256 .f32) → sProp 𝕄} (v337 : BitVec 32)
    (h : St m ρ K c 4 28 15 15 2 ⊢ Q (sumV m ρ c 2 1)) :
    St m ρ K c 4 28 14 14 2 ⊢ WP c (k0_part32 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v337 (sumV m ρ c 2 0)) Q := by
  rw [k0_part32_eq_skeleton]; unfold k0_part32_skel
  simp only [semSignalWord, semWaitWord, Prog.lift, Prog.bind_op, Prog.bind_ret, Prog.pure_eq_ret]
  refine st_send_wait m ρ K c 2 0 (by rfl) (by rfl) (by decide) (by rfl) ?_
  refine st_recv_wait m ρ K c 2 0 (by rfl) (by rfl) (by rfl) ?_
  refine st_load_got m ρ K c 2 0 (by decide) ?_
  exact st_ret c h

theorem part33_run {Q : (Σ' (v827 : FVec F S128x256 .f32), BitVec 32) → sProp 𝕄} (v349 : BitVec 32) (v361 : BitVec 32)
    (h : ∀ (w1 : BitVec 32), St m ρ K c 4 28 17 16 2 ⊢ Q ⟨(sumV m ρ c 2 2), w1⟩) :
    St m ρ K c 4 28 15 15 2 ⊢ WP c (k0_part33 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v349 v361 (sumV m ρ c 2 1)) Q := by
  rw [k0_part33_eq_skeleton]; unfold k0_part33_skel
  simp only [semSignalWord, semWaitWord, Prog.lift, Prog.bind_op, Prog.bind_ret, Prog.pure_eq_ret]
  refine st_send_wait m ρ K c 2 1 (by rfl) (by rfl) (by decide) (by rfl) ?_
  refine st_recv_wait m ρ K c 2 1 (by rfl) (by rfl) (by rfl) ?_
  refine st_load_got m ρ K c 2 1 (by decide) ?_
  refine st_send_wait m ρ K c 2 2 (by rfl) (by rfl) (by decide) (by rfl) ?_
  exact st_ret c (h _)

theorem part34_run {Q : (FVec F S128x256 .f32) → sProp 𝕄} (v373 : BitVec 32) (v834 : BitVec 32)
    (h : St m ρ K c 4 28 18 17 2 ⊢ Q (sumV m ρ c 2 3)) :
    St m ρ K c 4 28 17 16 2 ⊢ WP c (k0_part34 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v373 (sumV m ρ c 2 2) v834) Q := by
  rw [k0_part34_eq_skeleton]; unfold k0_part34_skel
  simp only [semSignalWord, semWaitWord, Prog.lift, Prog.bind_op, Prog.bind_ret, Prog.pure_eq_ret]
  refine st_recv_wait m ρ K c 2 2 (by rfl) (by rfl) (by rfl) ?_
  refine st_load_got m ρ K c 2 2 (by decide) ?_
  refine st_send_wait m ρ K c 2 3 (by rfl) (by rfl) (by decide) (by rfl) ?_
  exact st_ret c h

theorem part35_run {Q : (FVec F S128x256 .f32) → sProp 𝕄} (v385 : BitVec 32)
    (h : St m ρ K c 4 28 19 19 2 ⊢ Q (sumV m ρ c 2 5)) :
    St m ρ K c 4 28 18 17 2 ⊢ WP c (k0_part35 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v385 (sumV m ρ c 2 3)) Q := by
  rw [k0_part35_eq_skeleton]; unfold k0_part35_skel
  simp only [semSignalWord, semWaitWord, Prog.lift, Prog.bind_op, Prog.bind_ret, Prog.pure_eq_ret]
  refine st_recv_wait m ρ K c 2 3 (by rfl) (by rfl) (by rfl) ?_
  refine st_load_got m ρ K c 2 3 (by decide) ?_
  refine st_send_wait m ρ K c 2 4 (by rfl) (by rfl) (by decide) (by rfl) ?_
  refine st_recv_wait m ρ K c 2 4 (by rfl) (by rfl) (by rfl) ?_
  refine st_load_got m ρ K c 2 4 (by decide) ?_
  exact st_ret c h

theorem part36_run {Q : (FVec F S128x256 .f32) → sProp 𝕄} (v397 : BitVec 32)
    (h : St m ρ K c 4 28 20 20 2 ⊢ Q (sumV m ρ c 2 6)) :
    St m ρ K c 4 28 19 19 2 ⊢ WP c (k0_part36 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v397 (sumV m ρ c 2 5)) Q := by
  rw [k0_part36_eq_skeleton]; unfold k0_part36_skel
  simp only [semSignalWord, semWaitWord, Prog.lift, Prog.bind_op, Prog.bind_ret, Prog.pure_eq_ret]
  refine st_send_wait m ρ K c 2 5 (by rfl) (by rfl) (by decide) (by rfl) ?_
  refine st_recv_wait m ρ K c 2 5 (by rfl) (by rfl) (by rfl) ?_
  refine st_load_got m ρ K c 2 5 (by decide) ?_
  exact st_ret c h

theorem part37_run {Q : (FVec F S128x256 .f32) → sProp 𝕄} (v409 : BitVec 32)
    (h : St m ρ K c 4 28 21 21 3 ⊢ Q (sumV m ρ c 3 0)) :
    St m ρ K c 4 28 20 20 2 ⊢ WP c (k0_part37 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c (qw c) v409 (sumV m ρ c 2 6)) Q := by
  rw [k0_part37_eq_skeleton]; unfold k0_part37_skel
  simp only [semSignalWord, semWaitWord, Prog.lift, Prog.bind_op, Prog.bind_ret, Prog.pure_eq_ret]
  refine st_send_wait m ρ K c 2 6 (by rfl) (by rfl) (by decide) (by rfl) ?_
  refine st_recv_wait m ρ K c 2 6 (by rfl) (by rfl) (by rfl) ?_
  refine st_load_got m ρ K c 2 6 (by decide) ?_
  refine st_load_out m ρ K c fun _ => ?_
  refine st_store_out m ρ K c 2 (by rfl) (by rfl) ?_
  refine st_load_own m ρ K c 3 (by decide) (by exact off8_eq c) ?_
  exact st_ret c h

theorem part38_run {Q : (FVec F S128x256 .f32) → sProp 𝕄} (v443 : BitVec 32)
    (h : St m ρ K c 4 28 23 22 3 ⊢ Q (sumV m ρ c 3 1)) :
    St m ρ K c 4 28 21 21 3 ⊢ WP c (k0_part38 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v443 (sumV m ρ c 3 0)) Q := by
  rw [k0_part38_eq_skeleton]; unfold k0_part38_skel
  simp only [semSignalWord, semWaitWord, Prog.lift, Prog.bind_op, Prog.bind_ret, Prog.pure_eq_ret]
  refine st_send_wait m ρ K c 3 0 (by rfl) (by rfl) (by decide) (by rfl) ?_
  refine st_recv_wait m ρ K c 3 0 (by rfl) (by rfl) (by rfl) ?_
  refine st_load_got m ρ K c 3 0 (by decide) ?_
  refine st_send_wait m ρ K c 3 1 (by rfl) (by rfl) (by decide) (by rfl) ?_
  exact st_ret c h

theorem part39_run {Q : (FVec F S128x256 .f32) → sProp 𝕄} (v455 : BitVec 32) (v467 : BitVec 32)
    (h : St m ρ K c 4 28 24 23 3 ⊢ Q (sumV m ρ c 3 2)) :
    St m ρ K c 4 28 23 22 3 ⊢ WP c (k0_part39 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v455 v467 (sumV m ρ c 3 1)) Q := by
  rw [k0_part39_eq_skeleton]; unfold k0_part39_skel
  simp only [semSignalWord, semWaitWord, Prog.lift, Prog.bind_op, Prog.bind_ret, Prog.pure_eq_ret]
  refine st_recv_wait m ρ K c 3 1 (by rfl) (by rfl) (by rfl) ?_
  refine st_load_got m ρ K c 3 1 (by decide) ?_
  refine st_send_wait m ρ K c 3 2 (by rfl) (by rfl) (by decide) (by rfl) ?_
  exact st_ret c h

theorem part40_run {Q : (FVec F S128x256 .f32) → sProp 𝕄} (v479 : BitVec 32)
    (h : St m ρ K c 4 28 25 25 3 ⊢ Q (sumV m ρ c 3 3)) :
    St m ρ K c 4 28 24 23 3 ⊢ WP c (k0_part40 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v479 (sumV m ρ c 3 2)) Q := by
  rw [k0_part40_eq_skeleton]; unfold k0_part40_skel
  simp only [semSignalWord, semWaitWord, Prog.lift, Prog.bind_op, Prog.bind_ret, Prog.pure_eq_ret]
  refine st_recv_wait m ρ K c 3 2 (by rfl) (by rfl) (by rfl) ?_
  refine st_load_got m ρ K c 3 2 (by decide) ?_
  refine st_send_wait m ρ K c 3 3 (by rfl) (by rfl) (by decide) (by rfl) ?_
  refine st_recv_wait m ρ K c 3 3 (by rfl) (by rfl) (by rfl) ?_
  exact st_ret c h

theorem part41_run {Q : (FVec F S128x256 .f32) → sProp 𝕄} (v491 : BitVec 32)
    (h : St m ρ K c 4 28 26 26 3 ⊢ Q (sumV m ρ c 3 5)) :
    St m ρ K c 4 28 25 25 3 ⊢ WP c (k0_part41 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v491 (sumV m ρ c 3 3)) Q := by
  rw [k0_part41_eq_skeleton]; unfold k0_part41_skel
  simp only [semSignalWord, semWaitWord, Prog.lift, Prog.bind_op, Prog.bind_ret, Prog.pure_eq_ret]
  refine st_load_got m ρ K c 3 3 (by decide) ?_
  refine st_send_wait m ρ K c 3 4 (by rfl) (by rfl) (by decide) (by rfl) ?_
  refine st_recv_wait m ρ K c 3 4 (by rfl) (by rfl) (by rfl) ?_
  refine st_load_got m ρ K c 3 4 (by decide) ?_
  exact st_ret c h

theorem part42_run {Q : (FVec F S128x256 .f32) → sProp 𝕄} (v503 : BitVec 32)
    (h : St m ρ K c 4 28 27 27 3 ⊢ Q (sumV m ρ c 3 6)) :
    St m ρ K c 4 28 26 26 3 ⊢ WP c (k0_part42 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3 c v503 (sumV m ρ c 3 5)) Q := by
  rw [k0_part42_eq_skeleton]; unfold k0_part42_skel
  simp only [semSignalWord, semWaitWord, Prog.lift, Prog.bind_op, Prog.bind_ret, Prog.pure_eq_ret]
  refine st_send_wait m ρ K c 3 5 (by rfl) (by rfl) (by decide) (by rfl) ?_
  refine st_recv_wait m ρ K c 3 5 (by rfl) (by rfl) (by rfl) ?_
  refine st_load_got m ρ K c 3 5 (by decide) ?_
  exact st_ret c h

theorem part43_run {Q : (Σ' (d0 : Dev nD), FVec F S128x256 .f32) → sProp 𝕄}
    (h : St m ρ K c 4 28 28 27 3 ⊢ Q ⟨c, sumV m ρ c 3 6⟩) :
    Sb m ρ K c 7 ⊢ WP c (k0_part43 xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3) Q := by
  rw [k0_part43_eq_skeleton]; unfold k0_part43_skel
  refine st_bind c (part1_run m ρ K c ?_)
  refine st_bind c (part2_run m ρ K c _ _ ?_)
  refine st_bind c (part3_run m ρ K c ?_)
  refine st_bind c (part4_run m ρ K c fun _ => ?_)
  refine st_bind c (part5_run m ρ K c fun _ _ => ?_)
  refine st_bind c (part6_run m ρ K c fun _ _ => ?_)
  refine st_bind c (part7_run m ρ K c fun _ _ => ?_)
  refine st_bind c (part8_run m ρ K c fun _ => ?_)
  refine st_bind c (part9_run m ρ K c fun _ _ => ?_)
  refine st_bind c (part10_run m ρ K c fun _ _ => ?_)
  refine st_bind c (part11_run m ρ K c fun _ _ => ?_)
  refine st_bind c (part12_run m ρ K c fun _ => ?_)
  refine st_bind c (part13_run m ρ K c fun _ _ => ?_)
  refine st_bind c (part14_run m ρ K c fun _ _ => ?_)
  refine st_bind c (part15_run m ρ K c fun _ _ => ?_)
  refine st_bind c (part16_run m ρ K c fun _ => ?_)
  refine st_bind c (part17_run m ρ K c fun _ _ => ?_)
  refine st_bind c (part18_run m ρ K c fun _ _ => ?_)
  refine st_bind c (part19_run m ρ K c fun _ _ => ?_)
  refine st_bind c (part20_run m ρ K c _ ?_)
  refine st_bind c (part21_run m ρ K c _ ?_)
  refine st_bind c (part22_run m ρ K c _ fun _ => ?_)
  refine st_bind c (part23_run m ρ K c _ _ _ ?_)
  refine st_bind c (part24_run m ρ K c _ ?_)
  refine st_bind c (part25_run m ρ K c _ ?_)
  refine st_bind c (part26_run m ρ K c _ ?_)
  refine st_bind c (part27_run m ρ K c _ ?_)
  refine st_bind c (part28_run m ρ K c _ _ ?_)
  refine st_bind c (part29_run m ρ K c _ ?_)
  refine st_bind c (part30_run m ρ K c _ ?_)
  refine st_bind c (part31_run m ρ K c _ ?_)
  refine st_bind c (part32_run m ρ K c _ ?_)
  refine st_bind c (part33_run m ρ K c _ _ fun _ => ?_)
  refine st_bind c (part34_run m ρ K c _ _ ?_)
  refine st_bind c (part35_run m ρ K c _ ?_)
  refine st_bind c (part36_run m ρ K c _ ?_)
  refine st_bind c (part37_run m ρ K c _ ?_)
  refine st_bind c (part38_run m ρ K c _ ?_)
  refine st_bind c (part39_run m ρ K c _ _ ?_)
  refine st_bind c (part40_run m ρ K c _ ?_)
  refine st_bind c (part41_run m ρ K c _ ?_)
  refine st_bind c (part42_run m ρ K c _ ?_)
  simp only [Prog.lift, Prog.bind_op, Prog.bind_ret, Prog.pure_eq_ret]
  refine st_send_wait m ρ K c 3 6 (by rfl) (by rfl) (by decide) (by rfl) ?_
  exact st_ret c h

/-- The body, from the handshake to its last store. -/
theorem body_run {Q : PUnit → sProp 𝕄} (h : St m ρ K c 4 28 28 28 4 ⊢ Q ⟨⟩) :
    Sb m ρ K c 7 ⊢ WP c (cc0_body xM (Memref.isWhole_whole _) wM (Memref.isWhole_whole _) iM (Memref.isWhole_whole _) eM (Memref.isWhole_whole _) oM (Memref.isWhole_whole _) psM (Memref.isWhole_whole _) cmM (Memref.isWhole_whole _) cc0_scratch2 cc0_scratch3) Q := by
  rw [cc0_body_eq_skeleton]; unfold cc0_body_skel
  refine st_bind c (part43_run m ρ K c ?_)
  simp only [Prog.lift, Prog.bind_op, Prog.bind_ret, Prog.pure_eq_ret]
  refine st_recv_wait m ρ K c 3 6 (by rfl) (by rfl) (by rfl) ?_
  refine st_load_got m ρ K c 3 6 (by decide) ?_
  refine st_load_out m ρ K c fun _ => ?_
  refine st_store_out m ρ K c 3 (by rfl) (by rfl) ?_
  exact st_ret c h

end Parts

end Cert.MoeProof

end
-- ==== Proof.Body.lean ====
/-
The body's obligation from its run: the state at the point is gathered from what the launch gives, and at the end the two
scratch arrays are put together again and every cell of the protocol is closed.
-/
module

public import proofs.«01_k».proof.Proof.Parts
public import proofs.«01_k».proof.Proof.Gen.KernelIdeal.Points

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

theorem bigSep_opt (Φ : CK → sProp 𝕄) :
    bigSep Finset.univ Φ = iprop(Φ none ∗ bigSep Finset.univ fun k : OK => Φ (some k)) := by
  rw [bigSep_univ_at Φ none]
  have : (Finset.univ : Finset CK).erase none = Finset.univ.map Function.Embedding.some := by
    ext k; cases k <;> simp
  rw [this, bigSep_map]
  rfl
theorem bigSep_own (Φ : OK → sProp 𝕄) :
    bigSep Finset.univ Φ = iprop((bigSep Finset.univ fun i : Fin 4 × Fin 7 => Φ (false, i)) ∗ bigSep Finset.univ fun i : Fin 4 × Fin 7 => Φ (true, i)) := by
  rw [bigSep_univ_prod, bigSep_univ_eq_bigSepL [false, true] (by decide) (by decide)]
  rfl
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The duties device `c` pays. -/
def payToks (c : Dev nD) : sProp 𝕄 :=
  iprop((bigSep Finset.univ fun o : Fin 7 => dutyTok ER (barCell (src c o)) 0 o)
    ∗ (bigSep Finset.univ fun i : Fin 4 × Fin 7 => dutyTok ER (recvCell (tgt c i.2) i.1 i.2) 0 0)
    ∗ bigSep Finset.univ fun i : Fin 4 × Fin 7 => dutyTok ER (sendCell c i.1 i.2) 0 0)
/-- Its positions and those. -/
def linear (c : Dev nD) : sProp 𝕄 :=
  iprop((bigSep Finset.univ fun k : CK => atPos ER (kcell (c, k)) 0 ∅ 0) ∗ payToks (F := F) c)
/-- The credits it waits with. -/
def credsOf (c : Dev nD) : sProp 𝕄 :=
  iprop(cred (tallyAt (barCell c) () 7) ∗ bigSep Finset.univ fun i : Fin 4 × Fin 7 => cred (tallyAt (recvCell c i.1 i.2) () N))
def start (c : Dev nD) : sProp 𝕄 :=
  iprop((∃ K, records m ρ K ∗ linear (F := F) c) ∗ credsOf (F := F) c ∗ levAts L lv)

def scr0 (c : Dev nD) : sProp 𝕄 := iprop(∃ f : Buf (Elt F) ((c : Thread nD τ).loc cc0_scratch0), ((c : Thread nD τ).loc cc0_scratch0) ↦{fullShare} f)
def scr1 (c : Dev nD) : sProp 𝕄 := iprop(∃ f : Buf (Elt F) ((c : Thread nD τ).loc cc0_scratch1), ((c : Thread nD τ).loc cc0_scratch1) ↦{fullShare} f)

def Φ₀ (c : Dev nD) : sProp 𝕄 := iprop(start m ρ c ∗ scr0 (F := F) c ∗ scr1 (F := F) c)
/-- At the end: the scratch arrays whole, every cell of the protocol at zero. -/
def Φ₁ (c : Dev nD) : sProp 𝕄 :=
  iprop(scr0 (F := F) c ∗ scr1 (F := F) c ∗ bigSep Finset.univ fun k : CK => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => istg m ρ c
    | ⟨3, _⟩ => estg m ρ c
    | ⟨4, _⟩ => outV m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Into the run -/

theorem slab_in (c : Dev nD) : scr0 (F := F) c ⊢ bigSep Finset.univ (slab m ρ c 0 0 0) := by
  unfold scr0
  iintro ⟨%f, H⟩
  have h2 : (bigSep Finset.univ fun r : Fin 4 => slabPts (F := F) c r f) ⊢ bigSep Finset.univ (slab m ρ c 0 0 0) :=
    bigSep_mono fun r _ => (show slabPts (F := F) c r f ⊢ slab m ρ c 0 0 0 r by
      unfold slab
      rw [if_neg (Nat.not_lt_zero _)]
      iintro H
      iexists f; iexact H)
  iapply h2
  ihave H' := (Entails.of_eq (ps_split c f)) $$ H
  iexact H'

theorem sig_in (c : Dev nD) :
    iprop((bigSep Finset.univ fun o : Fin 7 => dutyTok ER (barCell (src c o)) 0 o) ∗ scr1 (F := F) c) ⊢ bigSep Finset.univ (sigTok (F := F) c 7) := by
  unfold scr1
  iintro ⟨HT, ⟨%f, H⟩⟩
  have h1 : (((c : Thread nD τ).loc cc0_scratch1) ↦{fullShare} f : sProp 𝕄)
      = bigSep Finset.univ fun o : Fin 7 => bigSep Finset.univ fun r : Fin 4 => cmPts c r o f := by
    rw [cm_split, ← bigSep_univ_prod (fun x : Fin 4 × Fin 7 => cmPts (F := F) c x.1 x.2 f), bigSep_univ_equiv (Equiv.prodComm (Fin 7) (Fin 4)), bigSep_univ_prod]
    rfl
  have h2 : iprop((bigSep Finset.univ fun o : Fin 7 => dutyTok ER (barCell (src c o)) 0 o)
        ∗ bigSep Finset.univ fun o : Fin 7 => bigSep Finset.univ fun r : Fin 4 => cmPts (F := F) c r o f)
      ⊢ bigSep Finset.univ (sigTok (F := F) c 7) := by
    rw [← bigSep_sep']
    exact bigSep_mono fun o _ => (show iprop(dutyTok ER (barCell (src c o)) 0 o ∗ bigSep Finset.univ fun r : Fin 4 => cmPts (F := F) c r o f) ⊢ sigTok (F := F) c 7 o by
      unfold sigTok
      rw [if_pos o.isLt]
      iintro ⟨H1, H2⟩
      isplitl [H1]; · iexact H1
      iexists f; iexact H2)
  iapply h2
  isplitl [HT]; · iexact HT
  ihave H' := (Entails.of_eq h1) $$ H
  iexact H'

theorem pos_in (c : Dev nD) :
    iprop((bigSep Finset.univ fun k : CK => atPos ER (kcell (c, k)) 0 ∅ 0) ∗ bigSep Finset.univ fun i : Fin 4 × Fin 7 => cred (tallyAt (recvCell c i.1 i.2) () N))
      ⊢ iprop(atPos ER (barCell c) 0 ∅ 0 ∗ bigSep Finset.univ (sendPos (F := F) c 0 0) ∗ bigSep Finset.univ (recvPos m ρ c 0)) := by
  have hs : ∀ i, sendPos (F := F) c 0 0 i = atPos ER (sendCell c i.1 i.2) 0 ∅ 0 := fun i => by
    unfold sendPos; rw [if_neg (Nat.not_lt_zero _), if_neg (Nat.not_lt_zero _)]
  have hr : ∀ i, recvPos m ρ c 0 i = iprop(atPos ER (recvCell c i.1 i.2) 0 ∅ 0 ∗ cred (tallyAt (recvCell c i.1 i.2) () N)) := fun i => by
    unfold recvPos; rw [if_neg (Nat.not_lt_zero _)]
  rw [bigSep_congr fun i _ => hs i, bigSep_congr fun i _ => hr i, bigSep_opt, bigSep_own, bigSep_sep']
  iintro ⟨⟨HB, HS, HV⟩, HC⟩
  isplitl [HB]; · iexact HB
  isplitl [HS]; · iexact HS
  isplitl [HV]; · iexact HV
  iexact HC

theorem copy_in (c : Dev nD) :
    iprop((bigSep Finset.univ fun i : Fin 4 × Fin 7 => dutyTok ER (recvCell (tgt c i.2) i.1 i.2) 0 0)
      ∗ bigSep Finset.univ fun i : Fin 4 × Fin 7 => dutyTok ER (sendCell c i.1 i.2) 0 0) ⊢ bigSep Finset.univ (copyTok (F := F) c) := by
  unfold copyTok
  rw [bigSep_sep']

theorem start_state (K : Dev nD × CK → ℕ) (c : Dev nD) (W : Waits sig Unit) (f : Buf (Elt F) ((c : Thread nD τ).loc cc0_stg4_0)) :
    iprop(records m ρ K ∗ linear (F := F) c ∗ credsOf (F := F) c ∗ levAts L lv ∗ scr0 (F := F) c ∗ scr1 (F := F) c
        ∗ owes (c : Thread nD τ) (O₀ c) W ∗ inputs m ρ c ∗ (((c : Thread nD τ).loc cc0_stg4_0) ↦{fullShare} f))
      ⊢ Sb m ρ K c 7 := by
  unfold linear payToks credsOf Sb outPts O₀
  iintro ⟨HR, ⟨Hat, HtB, HtV, HtS⟩, ⟨HcB, HcV⟩, Hl, H0, H1, HO, Hin, Hout⟩
  ihave Hp := (pos_in m ρ c) $$ [Hat HcV]
  · isplitl [Hat] <;> iassumption
  icases Hp with ⟨HB, HS, HV⟩
  ihave Hs := (slab_in m ρ c) $$ H0
  ihave Hg := (sig_in (F := F) c) $$ [HtB H1]
  · isplitl [HtB] <;> iassumption
  ihave Hc := (copy_in (F := F) c) $$ [HtV HtS]
  · isplitl [HtV] <;> iassumption
  isplitl [HR]; · iexact HR
  isplitl [Hin]; · iexact Hin
  isplitl [Hout]
  · iexists f
    isplitr
    · ipureintro
      intro i hi
      exact absurd hi (Nat.not_lt_zero _)
    · iexact Hout
  isplitl [Hc]; · iexact Hc
  isplitl [HS]; · iexact HS
  isplitl [HV]; · iexact HV
  isplitl [Hs]; · iexact Hs
  isplitl [HO]; · iexists W; iexact HO
  isplitl [HB]; · iexact HB
  isplitl [Hg]; · iexact Hg
  isplitl [HcB]; · iexact HcB
  iexact Hl

/-! ## Out of the run -/

theorem slab_out (c : Dev nD) : bigSep Finset.univ (slab m ρ c 4 28 28) ⊢ scr0 (F := F) c := by
  have hp : ∀ r o, piece m ρ c 28 28 r o = psPts c r (tgt c o) (psV m ρ c) := fun r o => by
    unfold piece; rw [if_neg (by omega)]
  have h : ∀ r : Fin 4, slab m ρ c 4 28 28 r = slabPts c r (psV m ρ c) := fun r => by
    unfold slab
    rw [if_pos r.isLt, slab_split, by_tgt c]
    congr 1
    exact bigSep_congr fun o _ => hp r o
  rw [bigSep_congr fun r _ => h r, ← ps_split]
  unfold scr0
  iintro H
  iexists _; iexact H

theorem recv_out (c : Dev nD) : bigSep Finset.univ (recvPos m ρ c 28)
    ⊢ iprop((bigSep Finset.univ fun i : Fin 4 × Fin 7 => atPos ER (recvCell c i.1 i.2) 1 ∅ 0) ∗ scr1 (F := F) c) := by
  have h : ∀ i, recvPos m ρ c 28 i = iprop(atPos ER (recvCell c i.1 i.2) 1 ∅ 0 ∗ cmPts c i.1 i.2 (cmV m ρ c)) := fun i => by
    have := i.1.isLt; have := i.2.isLt
    unfold recvPos; rw [if_pos (by simp only [ord]; omega)]
  rw [bigSep_congr fun i _ => h i, bigSep_sep', bigSep_univ_prod (fun i : Fin 4 × Fin 7 => cmPts (F := F) c i.1 i.2 (cmV m ρ c)), ← cm_split]
  unfold scr1
  iintro ⟨H1, H2⟩
  isplitl [H1]; · iexact H1
  iexists _; iexact H2

theorem close_all (K : Dev nD × CK → ℕ) (c : Dev nD) :
    iprop(records m ρ K ∗ bigSep Finset.univ fun k : CK => atPos ER (kcell (c, k)) 1 ∅ 0)
      ⊢ (|={Set.univ}=> bigSep Finset.univ fun k : CK => semVal (kcell (c, k)) 0 : sProp 𝕄) := by
  refine (bigSep_with (R := records m ρ K) (Ψ := fun k : CK => iprop(cellInv ER (Rd m ρ) (K (c, k)) (kcell (c, k)) ∗ atPos ER (kcell (c, k)) 1 ∅ 0)) fun k _ => ?_).trans
    (Rounds.cells_close ER (Rd m ρ) Finset.univ (fun k : CK => kcell (c, k)) (fun k => K (c, k)) (fun _ _ => Set.mem_univ _) (fun _ _ h => h) (fun _ => 1)
      (fun k _ => duties_later m ρ (kcell (c, k))))
  iintro ⟨H1, H2⟩
  isplitl [H1]
  · iapply (inv_of m ρ K (c, k)); iexact H1
  · iexact H2

theorem pos_out (c : Dev nD) :
    iprop(atPos ER (barCell c) 1 ∅ 0 ∗ bigSep Finset.univ (sendPos (F := F) c 28 28) ∗ bigSep Finset.univ fun i : Fin 4 × Fin 7 => atPos ER (recvCell c i.1 i.2) 1 ∅ 0)
      ⊢ (bigSep Finset.univ fun k : CK => atPos ER (kcell (c, k)) 1 ∅ 0 : sProp 𝕄) := by
  have hs : ∀ i, sendPos (F := F) c 28 28 i = atPos ER (sendCell c i.1 i.2) 1 ∅ 0 := fun i => by
    have := i.1.isLt; have := i.2.isLt
    unfold sendPos; rw [if_pos (by simp only [ord]; omega)]
  rw [bigSep_congr fun i _ => hs i, bigSep_opt, bigSep_own]
  iintro H; iexact H

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ (F := F) c ∗ (dats m ρ 0 c).owesAt () t0_0.succ ∗ stg c cc0_stg0_0 (xstg m ρ c) ∗ stg c cc0_stg1_0 (wstg m ρ c)
    ∗ stg c cc0_stg2_0 (istg m ρ c) ∗ stg c cc0_stg3_0 (estg m ρ c) ∗ stg c cc0_stg4_0 (outV m ρ c))

theorem end_state (K : Dev nD × CK → ℕ) (c : Dev nD) : St m ρ K c 4 28 28 28 4 ⊢ (|={Set.univ}=> bodyPost m ρ c : sProp 𝕄) := by
  unfold St outPts inputs bodyPost Φ₁ Dat.owesAt Pipeline.owesWithin
  rw [show (dats m ρ 0 c).owed t0_0.succ = 0 from rfl, OweC_end]
  iintro ⟨HR, ⟨Hx, Hw, Hi, He⟩, ⟨%f, %hf, Hout⟩, -, HS, HV, Hsl, ⟨%W, HO⟩, HB⟩
  ihave Hv := (recv_out m ρ c) $$ HV
  icases Hv with ⟨HV, H1⟩
  ihave H0 := (slab_out m ρ c) $$ Hsl
  ihave Hat := (pos_out (F := F) c) $$ [HB HS HV]
  · isplitl [HB]; · iexact HB
    isplitl [HS] <;> iassumption
  imod (close_all m ρ K c) $$ [HR Hat] with Hz
  · isplitl [HR] <;> iassumption
  imodintro
  isplitl [H0 H1 Hz]
  · isplitl [H0]; · iexact H0
    isplitl [H1] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists f; isplitr; · (ipureintro; exact out_done_all m ρ c f hf)
  iexact Hout

/-! ## The obligation -/

theorem before_0 (c : Dev nD) (d) : (dats m ρ 0 c).before (0 : Fin 5) t0_0 d = xstg m ρ c := by
  unfold Dat.before; rw [if_pos (fetch0_0 t0_0)]; rfl
theorem before_1 (c : Dev nD) (d) : (dats m ρ 0 c).before (1 : Fin 5) t0_0 d = wstg m ρ c := by
  unfold Dat.before; rw [if_pos (fetch0_1 t0_0)]; rfl
theorem before_2 (c : Dev nD) (d) : (dats m ρ 0 c).before (2 : Fin 5) t0_0 d = istg m ρ c := by
  unfold Dat.before; rw [if_pos (fetch0_2 t0_0)]; rfl
theorem before_3 (c : Dev nD) (d) : (dats m ρ 0 c).before (3 : Fin 5) t0_0 d = estg m ρ c := by
  unfold Dat.before; rw [if_pos (fetch0_3 t0_0)]; rfl

set_option maxRecDepth 8000 in
theorem sound_body (c : Dev nD) : bodyPre m ρ c
    ⊢ WP c (cc0_body xM (Memref.isWhole_whole _) wM (Memref.isWhole_whole _) iM (Memref.isWhole_whole _) eM (Memref.isWhole_whole _) oM (Memref.isWhole_whole _)
        psM (Memref.isWhole_whole _) cmM (Memref.isWhole_whole _) cc0_scratch2 cc0_scratch3) (fun _ => bodyPost m ρ c) := by
  have hrun : ∀ K, Sb m ρ K c 7 ⊢ WP c (cc0_body xM (Memref.isWhole_whole _) wM (Memref.isWhole_whole _) iM (Memref.isWhole_whole _) eM (Memref.isWhole_whole _) oM (Memref.isWhole_whole _)
        psM (Memref.isWhole_whole _) cmM (Memref.isWhole_whole _) cc0_scratch2 cc0_scratch3) (fun _ => bodyPost m ρ c) := fun K =>
    (body_run m ρ K c (Q := fun _ => iprop(|={Set.univ}=> bodyPost m ρ c)) (end_state m ρ K c)).trans (wp_fupd _ _ _ _ _)
  unfold bodyPre Φ₀ start Dat.owesAt Pipeline.owesWithin
  simp only [before_0, before_1, before_2, before_3]
  rw [show (dats m ρ 0 c).owed t0_0.castSucc = O₀ c from rfl]
  iintro ⟨⟨⟨⟨%K, HR, Hlin⟩, Hc, Hl⟩, H0, H1⟩, ⟨%W, -, HO⟩, ⟨%d0, %f0, %h0, Hx⟩, ⟨%d1, %f1, %h1, Hw⟩, ⟨%d2, %f2, %h2, Hi⟩, ⟨%d3, %f3, %h3, He⟩, ⟨%d4, %f4, -, Hout⟩⟩
  subst h0 h1 h2 h3
  iapply (hrun K)
  iapply (start_state m ρ K c W f4)
  isplitl [HR]; · iexact HR
  isplitl [Hlin]; · iexact Hlin
  isplitl [Hc]; · iexact Hc
  isplitl [Hl]; · iexact Hl
  isplitl [H0]; · iexact H0
  isplitl [H1]; · iexact H1
  isplitl [HO]; · iexact HO
  isplitl [Hx Hw Hi He]
  · unfold inputs
    isplitl [Hx]; · iexact Hx
    isplitl [Hw]; · iexact Hw
    isplitl [Hi] <;> iassumption
  iexact Hout

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _)
      (Memref.whole cc0_scratch0) (Memref.isWhole_whole _) (Memref.whole cc0_scratch1) (Memref.isWhole_whole _) cc0_scratch2 cc0_scratch3) (fun _ => bodyPost m ρ c)
  exact sound_body m ρ c

end Cert.MoeProof

end
-- ==== Proof.Launch.lean ====
/-
The launch: every cell's round state and duty tokens are made, dealt to the devices that pay them, and the run of the
program follows from the body's obligation.
-/
module

public import proofs.«01_k».proof.Proof.Body
public import Idealize.ShloMosaic.Lib.Quiescent
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem :=
  ⟨by decide +kernel, osem_inj, by decide +kernel⟩

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 := csem_inj (show csem k = csem k' from congrArg Prod.snd h)
  subst h2; rfl
def allCells : Finset (GSem nD τ sig) := Finset.univ.map ⟨kcell, kcell_injective⟩

/-- A device's duties: one of its barrier's, or the one of a copy's cell. -/
abbrev TK : Type := Fin 7 ⊕ OK
abbrev tokOf (cj : Dev nD × TK) : GSem nD τ sig × ℕ × Fin 7 := match cj.2 with
  | .inl o => (barCell cj.1, 0, o)
  | .inr k => (kcell (cj.1, some k), 0, 0)
theorem tokOf_injective : Function.Injective tokOf := by
  rintro ⟨c, j⟩ ⟨c', j'⟩ h
  rcases j with o | k <;> rcases j' with o' | k'
  · have h1 : c = c' := congrArg (fun x : GSem nD τ sig × ℕ × Fin 7 => x.1.1.1) h
    have h2 : o = o' := congrArg (fun x : GSem nD τ sig × ℕ × Fin 7 => x.2.2) h
    rw [h1, h2]
  · exact absurd (congrArg (fun x : GSem nD τ sig × ℕ × Fin 7 => x.1.2) h : SemLoc.reg barS = osem k').symm (osem_ne_bar k')
  · exact absurd (congrArg (fun x : GSem nD τ sig × ℕ × Fin 7 => x.1.2) h : osem k = SemLoc.reg barS) (osem_ne_bar k)
  · have h1 : ((c, some k) : Dev nD × CK) = (c', some k') := kcell_injective (congrArg Prod.fst h)
    have h2 := congrArg (fun x : Dev nD × CK => x.2) h1
    rw [show c = c' from congrArg Prod.fst h1, show k = k' from Option.some.inj h2]
def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun o : Fin 7 => dutyTok ER (barCell c) 0 o)
    ∗ (bigSep Finset.univ fun i : Fin 4 × Fin 7 => dutyTok ER (sendCell c i.1 i.2) 0 0)
    ∗ bigSep Finset.univ fun i : Fin 4 × Fin 7 => dutyTok ER (recvCell c i.1 i.2) 0 0)

/-- What the launch deals device `c`. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks (F := F) c)
/-- What the step over all devices makes of it. -/
def G' (c : Dev nD) : sProp 𝕄 := iprop(∃ K, records m ρ K ∗ linear (F := F) c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by
      unfold toks
      rw [bigSep_univ_sum, bigSep_own]
      rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [unscopedSems0_eq, bigSep_opt]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks (F := F) c) := by
  have hinv : iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := (Entails.of_eq (sems0_eq (F := F) c)) $$ [Hos Hus]
  · isplitl [Hus] <;> iassumption
  imod hinv $$ [Hv Hst] with Hinv
  · isplitl [Hv] <;> iassumption
  imodintro
  isplitl [Hinv]; · iexact Hinv
  isplitl [Hat]; · iexact Hat
  iexact Htok

/-- A barrier's duty `o` is paid by the device it is the target of; -/
def barAround : Dev nD × Fin 7 ≃ Dev nD × Fin 7 where
  toFun x := (src x.1 x.2, x.2)
  invFun x := (tgt x.1 x.2, x.2)
  left_inv x := Prod.ext (tgt_src _ _) rfl
  right_inv x := Prod.ext (src_tgt _ _) rfl
/-- a receive cell's by the one the copy comes from. -/
def recvAround : Dev nD × (Fin 4 × Fin 7) ≃ Dev nD × (Fin 4 × Fin 7) where
  toFun x := (tgt x.1 x.2.2, x.2)
  invFun x := (src x.1 x.2.2, x.2)
  left_inv x := Prod.ext (src_tgt _ _) rfl
  right_inv x := Prod.ext (tgt_src _ _) rfl

theorem toks_around : (bigSep Finset.univ fun c : Dev nD => (toks (F := F) c : sProp 𝕄)) ⊢ bigSep Finset.univ fun c : Dev nD => payToks (F := F) c := by
  have h1 : (bigSep Finset.univ fun c : Dev nD => bigSep Finset.univ fun o : Fin 7 => (dutyTok ER (barCell c) 0 o : sProp 𝕄))
      = bigSep Finset.univ fun c : Dev nD => bigSep Finset.univ fun o : Fin 7 => dutyTok ER (barCell (src c o)) 0 o := by
    rw [← bigSep_univ_prod (fun x : Dev nD × Fin 7 => (dutyTok ER (barCell x.1) 0 x.2 : sProp 𝕄)), bigSep_univ_equiv barAround, bigSep_univ_prod]
    rfl
  have h2 : (bigSep Finset.univ fun c : Dev nD => bigSep Finset.univ fun i : Fin 4 × Fin 7 => (dutyTok ER (recvCell c i.1 i.2) 0 0 : sProp 𝕄))
      = bigSep Finset.univ fun c : Dev nD => bigSep Finset.univ fun i : Fin 4 × Fin 7 => dutyTok ER (recvCell (tgt c i.2) i.1 i.2) 0 0 := by
    rw [← bigSep_univ_prod (fun x : Dev nD × (Fin 4 × Fin 7) => (dutyTok ER (recvCell x.1 x.2.1 x.2.2) 0 0 : sProp 𝕄)), bigSep_univ_equiv recvAround, bigSep_univ_prod]
    rfl
  unfold toks payToks
  rw [bigSep_sep', bigSep_sep', bigSep_sep', bigSep_sep', h1, h2]
  iintro ⟨H1, H2, H3⟩
  isplitl [H1]; · iexact H1
  isplitl [H3] <;> iassumption

theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  have hg : ∀ c ∈ (Finset.univ : Finset (Dev nD)), iprop(records m ρ K ∗ linear (F := F) c) ⊢ G' m ρ c := fun c _ => by
    unfold G'
    iintro H
    iexists K; iexact H
  iapply (bigSep_with (R := records m ρ K) hg)
  isplitr
  · unfold records; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem recv_inj {c c' : Dev nD} {i i' : Fin 4 × Fin 7} (h : recvCell c i.1 i.2 = recvCell c' i'.1 i'.2) : c = c' ∧ i = i' := by
  have h1 : ((c, some (true, i)) : Dev nD × CK) = (c', some (true, i')) := kcell_injective h
  have h2 := Option.some.inj (congrArg Prod.snd h1)
  exact ⟨congrArg Prod.fst h1, congrArg Prod.snd h2⟩

theorem OweC_apply (d : Dev nD) (g : GSem nD τ sig) :
    OweC d 0 g () = ∑ i : Fin 4 × Fin 7, if g = recvCell (tgt d i.2) i.1 i.2 then N else 0 := by
  unfold OweC
  rw [Finset.filter_true_of_mem fun i _ => Nat.zero_le _, Finset.sum_apply, Finsupp.finset_sum_apply]
  exact Finset.sum_congr rfl fun i _ => by rw [tallyAt_apply]; simp
theorem OweB_apply (d : Dev nD) (g : GSem nD τ sig) :
    OweB d 7 g () = ∑ o : Fin 7, if g = barCell (src d o) then 1 else 0 := by
  unfold OweB
  rw [Finset.filter_true_of_mem fun o _ => o.isLt, Finset.sum_apply, Finsupp.finset_sum_apply]
  exact Finset.sum_congr rfl fun i _ => by rw [tallyAt_apply]; simp

theorem sum_bar (c : Dev nD) : ∑ d : Dev nD, O₀ d (barCell c) () = 7 := by
  have h : ∀ d : Dev nD, O₀ d (barCell c) () = ∑ o : Fin 7, if c = src d o then 1 else 0 := fun d => by
    unfold O₀
    rw [Pi.add_apply, Finsupp.add_apply, OweC_apply, OweB_apply, Finset.sum_eq_zero, Nat.zero_add]
    · refine Finset.sum_congr rfl fun o _ => ?_
      by_cases e : c = src d o
      · rw [if_pos e, if_pos (congrArg barCell e)]
      · rw [if_neg e, if_neg fun h' => e (congrArg (fun g : GSem nD τ sig => g.1.1) h')]
    · intro i _
      exact if_neg fun h' => osem_ne_bar (true, i) (congrArg Prod.snd h').symm
  rw [Finset.sum_congr rfl fun d _ => h d]
  clear h; revert c; decide +kernel

theorem sum_recv (c : Dev nD) (i : Fin 4 × Fin 7) : ∑ d : Dev nD, O₀ d (recvCell c i.1 i.2) () = N := by
  have h : ∀ d : Dev nD, O₀ d (recvCell c i.1 i.2) () = if d = src c i.2 then N else 0 := fun d => by
    unfold O₀
    rw [Pi.add_apply, Finsupp.add_apply, OweC_apply, OweB_apply, Finset.sum_eq_zero (f := fun o : Fin 7 => if recvCell c i.1 i.2 = barCell (src d o) then 1 else 0)
      (fun o _ => if_neg fun h' => osem_ne_bar (true, i) (congrArg Prod.snd h')), Nat.add_zero]
    by_cases e : d = src c i.2
    · rw [if_pos e, Finset.sum_eq_single i]
      · exact if_pos (by rw [e, tgt_src])
      · intro i' _ hne
        exact if_neg fun h' => hne (recv_inj h').2.symm
      · intro hn; exact absurd (Finset.mem_univ _) hn
    · rw [if_neg e]
      refine Finset.sum_eq_zero fun i' _ => if_neg fun h' => ?_
      obtain ⟨h1, h2⟩ := recv_inj h'
      exact e (by rw [h1, h2, src_tgt])
  rw [Finset.sum_congr rfl fun d _ => h d, Finset.sum_ite_eq' Finset.univ (src c i.2) fun _ => N, if_pos (Finset.mem_univ _)]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, sum_bar]
theorem launch_recv (c : Dev nD) (i : Fin 4 × Fin 7) :
    tallyOn (recvCell c i.1 i.2) (launchCredit (Pipeline.owing O₀) 0 (recvCell c i.1 i.2)) = (tallyAt (recvCell c i.1 i.2) () N : CellTallies nD τ sig Unit) := by
  unfold tallyAt; refine congrArg _ (Finsupp.ext fun u => ?_); cases u
  rw [Pipeline.launchCredit_owing, Finsupp.single_eq_same, sum_recv]

theorem creds (c : Dev nD) : (Pipeline.launchCred O₀ c : sProp 𝕄) ⊢ credsOf (F := F) c := by
  have h : (Pipeline.launchCred O₀ c : sProp 𝕄) ⊢ bigSep Finset.univ fun k : CK =>
      cred (tallyOn (kcell (c, k)) (launchCredit (Pipeline.owing O₀) 0 (kcell (c, k)))) := by
    unfold Pipeline.launchCred
    refine (bigSep_subset (Finset.subset_univ (Finset.univ.map ⟨csem, csem_inj⟩))).trans ?_
    rw [bigSep_map]
    exact BI.Entails.refl _
  refine h.trans ?_
  rw [bigSep_opt, bigSep_own]
  unfold credsOf
  rw [← launch_bar, bigSep_congr fun i _ => congrArg (fun t => (cred t : sProp 𝕄)) (launch_recv c i).symm]
  iintro ⟨H1, -, H2⟩
  isplitl [H1]; · iexact H1
  iexact H2

/-! ## The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr0 scr1
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scr0 scr1
  rw [← sems0_eq]
  iintro ⟨H0, H1, HB, HS⟩
  isplitl [HB]; · iexact HB
  isplitl [HS]; · iexact HS
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of `main` on the eight devices
    terminates, and every final state has each device's arrays at `finalA` and every semaphore's counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after it -/

theorem final_0 (c : Dev nD) : finalA m ρ c (0 : Fin 5) = m ((c : Thread nD τ).loc main_arg0) := (dats (F := F) m ρ 0 c).arrAt_in (0 : Fin 5) rfl _
theorem final_1 (c : Dev nD) : finalA m ρ c (1 : Fin 5) = m ((c : Thread nD τ).loc main_arg1) := (dats (F := F) m ρ 0 c).arrAt_in (1 : Fin 5) rfl _
theorem final_2 (c : Dev nD) : finalA m ρ c (2 : Fin 5) = m ((c : Thread nD τ).loc main_arg2) := (dats (F := F) m ρ 0 c).arrAt_in (2 : Fin 5) rfl _
theorem final_3 (c : Dev nD) : finalA m ρ c (3 : Fin 5) = m ((c : Thread nD τ).loc main_arg3) := (dats (F := F) m ρ 0 c).arrAt_in (3 : Fin 5) rfl _

theorem final_4 (c : Dev nD) : finalA m ρ c (4 : Fin 5) = outV m ρ c := by
  have hz : (fun a => (win0_4.index (0 : Fin 1)) a * main_v1.ty.shape.size a) = fun _ => 0 :=
    funext fun a => by fin_cases a <;> decide
  have ho : (win0_4.blk (0 : Fin 1)).view.read (Elt F) (finalA m ρ c (4 : Fin 5)) = outV m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  rw [← ho]
  exact (Memref.read_access_unit_zero (Elt F) main_v1 hz (fun a => by fin_cases a <;> decide) _).symm

end Cert.MoeProof

end
-- ==== Proof.Gate.lean ====
module

public import Idealize.ShloMosaic.PureOps.Ideal.Laws
public import Idealize.ShloMosaic.Lib.ValueIdx

/-!
# The arithmetic of the mixture, on the extended reals

A row of router scores, all of them real, has positive real softmax weights. Keeping the weights of two chosen experts
and dividing by their sum gives gates that are non-negative reals, zero off the two experts. A real gate
moves out of a sum of products, so scaling the token before the product with an expert's weights and
scaling the product after it agree.
-/

@[expose] public section

noncomputable section

namespace Cert.MoeProof

open Idealize.ShloMosaic Idealize.ShloMosaic.ValueIdx

/-- The greatest of a row of scores. -/
def rowMax (s : Fin 32 → EReal) : EReal := Finset.univ.fold max ⊥ s

/-- The softmax weight of expert `e`. -/
def soft (s : Fin 32 → EReal) (e : Fin 32) : EReal :=
  Ideal.div (Ideal.exp (s e - rowMax s)) (∑ k, Ideal.exp (s k - rowMax s))

/-- The weights of the two chosen experts, zero elsewhere. -/
def pick (s : Fin 32 → EReal) (a b e : Fin 32) : EReal := if e = a ∨ e = b then soft s e else 0

/-- The kernel's gate: a chosen weight over the sum of the chosen weights. -/
def gate (s : Fin 32 → EReal) (a b e : Fin 32) : EReal := Ideal.div (pick s a b e) (∑ k, pick s a b k)

/-- The least value of the format, from which a maximum starts. -/
theorem negInf : Ideal.ofBits .f32 0xFF800000#32 = ⊥ := by simp [Ideal.ofBits, Ideal.ieee]

theorem posInf : Ideal.ofBits .f32 0x7F800000#32 = ⊤ := by simp [Ideal.ofBits, Ideal.ieee]

/-- The kernel's gate for one local expert: the sum over the row of the gates that carry its number. -/
theorem sum_ite_gate (g : Fin 32 → EReal) (n : Fin 32) : (∑ e, if e = n then g e else 0) = g n := by
  rw [Finset.sum_ite_eq' Finset.univ n g, if_pos (Finset.mem_univ n)]

/-- A finite sum of reals is real. -/
theorem sum_real {ι : Type} (S : Finset ι) (f : ι → EReal) (h : ∀ i, ∃ r : ℝ, f i = r) : ∃ r : ℝ, ∑ i ∈ S, f i = r := by
  choose g hg using h
  refine ⟨∑ i ∈ S, g i, ?_⟩
  rw [Finset.sum_congr rfl fun i _ => hg i]
  induction S using Finset.cons_induction with
  | empty => simp
  | cons a S ha ih => rw [Finset.sum_cons, Finset.sum_cons, ih, EReal.coe_add]

theorem sum_coe {ι : Type} (S : Finset ι) (g : ι → ℝ) : ∑ i ∈ S, ((g i : ℝ) : EReal) = ((∑ i ∈ S, g i : ℝ) : EReal) := by
  induction S using Finset.cons_induction with
  | empty => simp
  | cons a S ha ih => rw [Finset.sum_cons, Finset.sum_cons, ih, EReal.coe_add]

/-- The maximum of real scores is real. -/
theorem rowMax_real (s : Fin 32 → EReal) (h : ∀ e, ∃ r : ℝ, s e = r) : ∃ r : ℝ, rowMax s = r := by
  obtain ⟨e, -, he⟩ := Finset.exists_mem_eq_sup (Finset.univ : Finset (Fin 32)) ⟨0, Finset.mem_univ _⟩ s
  obtain ⟨r, hr⟩ := h e
  exact ⟨r, (show rowMax s = Finset.univ.sup s from rfl).trans (he.trans hr)⟩

/-- The softmax weights of real scores are positive reals. -/
theorem soft_real (s : Fin 32 → EReal) (h : ∀ e, ∃ r : ℝ, s e = r) :
    ∃ p : Fin 32 → ℝ, (∀ e, 0 < p e) ∧ ∀ e, soft s e = p e := by
  obtain ⟨M, hM⟩ := rowMax_real s h
  choose g hg using h
  have hx : ∀ e, Ideal.exp (s e - rowMax s) = ((Real.exp (g e - M) : ℝ) : EReal) := fun e => by
    rw [hM, hg e, ← EReal.coe_sub]; rfl
  have hpos : 0 < ∑ k, Real.exp (g k - M) := Finset.sum_pos (fun k _ => Real.exp_pos _) ⟨0, Finset.mem_univ _⟩
  refine ⟨fun e => Real.exp (g e - M) * (1 / ∑ k, Real.exp (g k - M)),
    fun e => mul_pos (Real.exp_pos _) (one_div_pos.mpr hpos), fun e => ?_⟩
  unfold soft
  rw [Finset.sum_congr rfl fun k _ => hx k, sum_coe, hx e, Ideal.div_coe hpos.ne', EReal.coe_mul]

/-- A non-negative real moves out of a sum. -/
theorem real_mul_sum {ι : Type} (S : Finset ι) (γ : ℝ) (hγ : 0 ≤ γ) (f : ι → EReal) :
    ∑ i ∈ S, (γ : EReal) * f i = (γ : EReal) * ∑ i ∈ S, f i := by
  induction S using Finset.cons_induction with
  | empty => simp
  | cons a S ha ih =>
    rw [Finset.sum_cons, Finset.sum_cons, ih,
      EReal.left_distrib_of_nonneg_of_ne_top (EReal.coe_nonneg.mpr hγ) (EReal.coe_ne_top γ)]

/-- One expert's share: the gate on the token before the product is the gate on the product. -/
theorem gate_out (γ : ℝ) (hγ : 0 ≤ γ) (x w : Fin 512 → EReal) :
    ∑ k, (x k * (γ : EReal)) * w k = (γ : EReal) * ∑ k, x k * w k := by
  rw [← real_mul_sum _ γ hγ]
  exact Finset.sum_congr rfl fun k _ => by rw [mul_comm (x k), mul_assoc]

/-- One element of the result: the sum over all experts of the gated tokens' products is the two chosen experts'
    products under their renormalized weights. -/
theorem mix (s : Fin 32 → EReal) (h : ∀ e, ∃ r : ℝ, s e = r) (a b : Fin 32) (x : Fin 512 → EReal)
    (w : Fin 32 → Fin 512 → EReal) :
    (∑ e, ∑ k, (x k * gate s a b e) * w e k)
      = Ideal.div (soft s a) (soft s a + soft s b) * (∑ k, x k * w a k)
        + Ideal.div (soft s b) (soft s a + soft s b) * (∑ k, x k * w b k) := by
  obtain ⟨p, hp, hs⟩ := soft_real s h
  have hgate : ∀ (S : ℝ), 0 < S → (∑ k, pick s a b k) = (S : EReal) → ∀ e,
      (∑ k, (x k * gate s a b e) * w e k) = if e = a ∨ e = b then ((p e * (1 / S) : ℝ) : EReal) * ∑ k, x k * w e k else 0 := by
    intro S hS hsum e
    have hg : gate s a b e = (((if e = a ∨ e = b then p e else 0) * (1 / S) : ℝ) : EReal) := by
      unfold gate
      rw [hsum, Ideal.div_coe hS.ne', EReal.coe_mul]
      congr 1
      unfold pick
      split
      · exact hs e
      · simp
    rw [hg, gate_out _ (mul_nonneg (by split; exacts [(hp e).le, le_rfl]) (one_div_pos.mpr hS).le)]
    split <;> simp
  by_cases hab : a = b
  · subst hab
    have hsum : (∑ k, pick s a a k) = ((p a : ℝ) : EReal) := by
      have : ∀ k, pick s a a k = if k = a then soft s k else 0 := fun k => by simp [pick]
      rw [Finset.sum_congr rfl fun k _ => this k, sum_ite_gate, hs]
    rw [Finset.sum_congr rfl fun e _ => hgate (p a) (hp a) hsum e]
    simp only [or_self]
    rw [sum_ite_gate (fun e => ((p e * (1 / p a) : ℝ) : EReal) * ∑ k, x k * w e k) a, hs a, ← EReal.coe_add,
      Ideal.div_coe (by have := hp a; positivity), ← EReal.coe_mul,
      ← EReal.right_distrib_of_nonneg
        (EReal.coe_nonneg.mpr (by have := hp a; positivity)) (EReal.coe_nonneg.mpr (by have := hp a; positivity)),
      ← EReal.coe_add]
    congr 2
    have := (hp a).ne'
    field_simp
  · have two : ∀ f : Fin 32 → EReal, (∑ e, if e = a ∨ e = b then f e else 0) = f a + f b := fun f => by
      rw [Finset.sum_eq_add (s := Finset.univ) a b hab]
      · simp
      · intro c _ hc; simp [hc.1, hc.2]
      · simp
      · simp
    have hsum : (∑ k, pick s a b k) = ((p a + p b : ℝ) : EReal) := by
      rw [show (∑ k, pick s a b k) = _ from two (soft s), hs, hs, EReal.coe_add]
    have hS : 0 < p a + p b := add_pos (hp a) (hp b)
    rw [Finset.sum_congr rfl fun e _ => hgate _ hS hsum e, two (fun e => ((p e * (1 / (p a + p b)) : ℝ) : EReal) * ∑ k, x k * w e k),
      hs, hs, ← EReal.coe_add, Ideal.div_coe hS.ne', Ideal.div_coe hS.ne', ← EReal.coe_mul, ← EReal.coe_mul]

/-! ## The function both programs compute -/

/-- The expert an index word names. -/
def ex (r : BitVec 32) : Fin 32 := ⟨min r.toInt.toNat 31, by omega⟩

/-- The router's score of token `i` for expert `e`. -/
def score (x : (⟨2, ![1024, 512]⟩ : Shape).Idx → EReal) (v : (⟨2, ![512, 32]⟩ : Shape).Idx → EReal) (i : Fin 1024)
    (e : Fin 32) : EReal := ∑ k : Fin 512, x (ix2 i k) * v (ix2 k e)

/-- Element `(i, h)` of the mixture: the two chosen experts' products under their renormalized weights. -/
def moe (x : (⟨2, ![1024, 512]⟩ : Shape).Idx → EReal) (v : (⟨2, ![512, 32]⟩ : Shape).Idx → EReal)
    (r : (⟨2, ![1024, 2]⟩ : Shape).Idx → BitVec 32) (w : (⟨3, ![32, 512, 1024]⟩ : Shape).Idx → EReal)
    (i : Fin 1024) (h : Fin 1024) : EReal :=
  Ideal.div (soft (score x v i) (ex (r (ix2 i 0)))) (soft (score x v i) (ex (r (ix2 i 0))) + soft (score x v i) (ex (r (ix2 i 1))))
      * (∑ k : Fin 512, x (ix2 i k) * w (ix3 (ex (r (ix2 i 0))) k h))
    + Ideal.div (soft (score x v i) (ex (r (ix2 i 1)))) (soft (score x v i) (ex (r (ix2 i 0))) + soft (score x v i) (ex (r (ix2 i 1))))
      * (∑ k : Fin 512, x (ix2 i k) * w (ix3 (ex (r (ix2 i 1))) k h))

/-- The scores of finite tokens under finite router weights are real. -/
theorem score_real (x : (⟨2, ![1024, 512]⟩ : Shape).Idx → EReal) (v : (⟨2, ![512, 32]⟩ : Shape).Idx → EReal)
    (hx : ∀ i, ∃ a : ℝ, x i = a) (hv : ∀ i, ∃ a : ℝ, v i = a) (i : Fin 1024) (e : Fin 32) : ∃ a : ℝ, score x v i e = a :=
  sum_real _ _ fun k => by
    obtain ⟨a, ha⟩ := hx (ix2 i k)
    obtain ⟨b, hb⟩ := hv (ix2 k e)
    exact ⟨a * b, by rw [ha, hb, EReal.coe_mul]⟩

/-- An index word in range is the word of the expert it names. -/
theorem ex_word (r : BitVec 32) (h0 : 0 ≤ r.toInt) (h1 : r.toInt < 32) (e : Fin 32) :
    BitVec.ofNat 32 e.val = r ↔ e = ex r := by
  have hr : (ex r).val = r.toInt.toNat := by show min _ _ = _; omega
  have hn : r.toNat = r.toInt.toNat := by
    rw [BitVec.toInt_eq_toNat_cond] at h0 h1 ⊢
    have := r.isLt
    split at h0 <;> omega
  constructor
  · intro h
    apply Fin.ext
    rw [hr, ← hn, ← h, BitVec.toNat_ofNat, Nat.mod_eq_of_lt (by have := e.isLt; omega)]
  · intro h
    apply BitVec.eq_of_toNat_eq
    rw [BitVec.toNat_ofNat, Nat.mod_eq_of_lt (by have := e.isLt; omega), h, hr, hn]

end Cert.MoeProof
-- ==== Proof.PayValue.lean ====
/-
The kernel's arithmetic read at an element: the gates of a device's experts, the gated tokens, a round's partial sums.
-/
module

public import proofs.«01_k».proof.Proof.Gate
public import proofs.«01_k».proof.Proof.Vals
public import Idealize.ShloMosaic.Lib.MatmulPlain
public import Idealize.ShloMosaic.Lib.ValueLayout
public import Idealize.ShloMosaic.Lib.ValueLayoutCasts

@[expose] public section

noncomputable section

namespace Cert.MoeProof

open Cert.KernelIdeal Cert.KernelIdeal.Gen
open Idealize.ShloMosaic Idealize.ShloMosaic.TcCoe Idealize.ShloMosaic.ValueIdx

/-! ## Shapes and comparisons -/

/-- A column cast from a vector and spread over `n` columns reads the vector at the row. -/
theorem spread_at (v : FVec Ideal S1024 .f32) (i : Fin 1024) (e : Fin 32) :
    broadcastTo S1024x32 (shapeCast S1024x1 v shapeCasts_S1024_S1024x1) broadcasts_S1024x1_S1024x32 (ix2 i e) = v (ix1 i) := by
  refine Eq.trans ?_ (shapeCast_a_a1_apply v shapeCasts_S1024_S1024x1 i 0)
  unfold broadcastTo
  refine congrArg _ (funext fun a => ?_)
  fin_cases a <;> rfl

theorem spread512_at (v : FVec Ideal S1024 .f32) (i : Fin 1024) (e : Fin 512) :
    broadcastTo S1024x512 (shapeCast S1024x1 v shapeCasts_S1024_S1024x1) broadcasts_S1024x1_S1024x512 (ix2 i e) = v (ix1 i) := by
  refine Eq.trans ?_ (shapeCast_a_a1_apply v shapeCasts_S1024_S1024x1 i 0)
  unfold broadcastTo
  refine congrArg _ (funext fun a => ?_)
  fin_cases a <;> rfl

theorem spreadI_at (v : IVec S1024x1 32) (i : Fin 1024) (e : Fin 32) :
    broadcastTo S1024x32 (shapeCast S1024x1 v shapeCasts_S1024x1_S1024x1) broadcasts_S1024x1_S1024x32 (ix2 i e) = v (ix2 i 0) := by
  refine Eq.trans ?_ (shapeCast_apply v shapeCasts_S1024x1_S1024x1 (ix2 i 0) (ix2 i 0) rfl)
  unfold broadcastTo
  refine congrArg _ (funext fun a => ?_)
  fin_cases a <;> rfl

theorem lift32 (i : Fin 1024) (k : Fin 32) : reduces_S1024x32_S1024.lift (ix1 i) k = ix2 i k := by
  funext a
  fin_cases a <;> rfl

/-- A row's sum. -/
theorem add_at (d : FVec Ideal S1024x32 .f32) (i : Fin 1024) :
    multiReduction .add [1] S1024 d 0x00000000#32 reduces_S1024x32_S1024 (.inl rfl) rfl (ix1 i) = ∑ k : Fin 32, d (ix2 i k) := by
  refine (Ideal.multiReduction_add_single d _ reduces_S1024x32_S1024 (.inl rfl) rfl (ix1 i)).trans ?_
  exact Finset.sum_congr rfl fun k _ => congrArg d (lift32 i k)

/-- A row's maximum. -/
theorem max_at (d : FVec Ideal S1024x32 .f32) (i : Fin 1024) :
    multiReduction .maximumf [1] S1024 d 0xFF800000#32 reduces_S1024x32_S1024 (.inl rfl) rfl (ix1 i) = rowMax fun e => d (ix2 i e) := by
  refine (Ideal.multiReduction_maximumf_single d 0xFF800000#32 reduces_S1024x32_S1024 (.inl rfl) rfl (ix1 i)).trans ?_
  unfold rowMax
  rw [show (FloatOps.ofBits .f32 0xFF800000#32 : Ideal .f32) = ⊥ from negInf]
  exact congrArg (Finset.univ.fold max ⊥) (funext fun k => congrArg d (lift32 i k))

theorem iotaV_at (i : Fin 1024) (e : Fin 32) : iotaV (ix2 i e) = BitVec.ofNat 32 e.val := by
  unfold iotaV
  rw [iota_single_apply]

theorem cmp_eq (a b : BitVec 32) : IntOp.cmpi .eq a b = if a = b then 1#1 else 0#1 := by
  show BitVec.ofBool (a == b) = _
  by_cases h : a = b
  · rw [if_pos h, h, beq_self_eq_true]; rfl
  · rw [if_neg h, beq_eq_false_iff_ne.mpr h]; rfl

theorem zc_eq : (zc : Ideal .f32) = 0 := Ideal.ofBits_zero_f32

/-! ## The router -/

/-- The scores, as the body computes them. -/
def dV (x : FVec Ideal S1024x512 .f32) (v : FVec Ideal S512x32 .f32) : FVec Ideal S1024x32 .f32 :=
  matmul dot_S1024x512_S512x32_S1024x32_1_0_0_1_n_n none (k0_pay2 x) (shapeCast S512x32 v shapeCasts_S512x32_S512x32)
    (constant S1024x32 .f32 0x00000000#32)

theorem pay2_eq (x : FVec Ideal S1024x512 .f32) : k0_pay2 x = x :=
  funext fun i => shapeCast_apply x shapeCasts_S1024x512_S1024x512 i i rfl

theorem dV_at (x : FVec Ideal S1024x512 .f32) (v : FVec Ideal S512x32 .f32) (i : Fin 1024) (e : Fin 32) :
    dV x v (ix2 i e) = score x v i e := by
  unfold dV
  rw [pay2_eq, show shapeCast S512x32 v shapeCasts_S512x32_S512x32 = v from
    funext fun i => shapeCast_apply v shapeCasts_S512x32_S512x32 i i rfl]
  refine (Ideal.matmul_plain_apply (M := 1024) (K := 512) (N := 32) none x v _ i e).trans ?_
  show Ideal.ofBits .f32 0x00000000#32 + _ = _
  rw [Ideal.ofBits_zero_f32, zero_add]
  rfl

def eV (d : FVec Ideal S1024x32 .f32) : FVec Ideal S1024x32 .f32 :=
  exp (subf d (broadcastTo S1024x32 (shapeCast S1024x1 (multiReduction .maximumf [1] S1024 d 0xFF800000#32
    reduces_S1024x32_S1024 (.inl rfl) rfl) shapeCasts_S1024_S1024x1) broadcasts_S1024x1_S1024x32))

theorem eV_at (d : FVec Ideal S1024x32 .f32) (i : Fin 1024) (e : Fin 32) :
    eV d (ix2 i e) = Ideal.exp (d (ix2 i e) - rowMax fun e => d (ix2 i e)) := by
  rw [← max_at d i, ← spread_at (multiReduction .maximumf [1] S1024 d 0xFF800000#32 reduces_S1024x32_S1024 (.inl rfl) rfl) i e]
  rfl

def pV (d : FVec Ideal S1024x32 .f32) : FVec Ideal S1024x32 .f32 :=
  divf (eV d) (broadcastTo S1024x32 (shapeCast S1024x1 (multiReduction .add [1] S1024 (eV d) 0x00000000#32
    reduces_S1024x32_S1024 (.inl rfl) rfl) shapeCasts_S1024_S1024x1) broadcasts_S1024x1_S1024x32)

theorem pV_at (d : FVec Ideal S1024x32 .f32) (i : Fin 1024) (e : Fin 32) :
    pV d (ix2 i e) = soft (fun e => d (ix2 i e)) e := by
  unfold soft
  rw [← eV_at, Finset.sum_congr rfl fun k _ => (eV_at d i k).symm, ← add_at (eV d) i,
    ← spread_at (multiReduction .add [1] S1024 (eV d) 0x00000000#32 reduces_S1024x32_S1024 (.inl rfl) rfl) i e]
  rfl

theorem pay3_eq (x : FVec Ideal S1024x512 .f32) (v : FVec Ideal S512x32 .f32) (r0 r1 : IVec S1024x1 32) :
    k0_pay3 (F := Ideal) x v r0 r1
      = select (ori (cmpi .eq iotaV (broadcastTo S1024x32 (shapeCast S1024x1 r0 shapeCasts_S1024x1_S1024x1) broadcasts_S1024x1_S1024x32))
          (cmpi .eq iotaV (broadcastTo S1024x32 (shapeCast S1024x1 r1 shapeCasts_S1024x1_S1024x1) broadcasts_S1024x1_S1024x32)))
        (pV (dV x v)) (broadcast S1024x32 (zc : Ideal .f32)) := rfl

/-- A row's chosen weights. -/
theorem pay3_at (x : FVec Ideal S1024x512 .f32) (v : FVec Ideal S512x32 .f32) (r0 r1 : IVec S1024x1 32) (i : Fin 1024)
    (h0 : 0 ≤ (r0 (ix2 i 0)).toInt ∧ (r0 (ix2 i 0)).toInt < 32) (h1 : 0 ≤ (r1 (ix2 i 0)).toInt ∧ (r1 (ix2 i 0)).toInt < 32)
    (e : Fin 32) :
    k0_pay3 (F := Ideal) x v r0 r1 (ix2 i e) = pick (score x v i) (ex (r0 (ix2 i 0))) (ex (r1 (ix2 i 0))) e := by
  rw [pay3_eq]
  show Scalar.select (IntOp.ori (IntOp.cmpi .eq (iotaV (ix2 i e)) _) (IntOp.cmpi .eq (iotaV (ix2 i e)) _)) (pV (dV x v) (ix2 i e))
    (zc : Ideal .f32) = _
  rw [spreadI_at, spreadI_at, iotaV_at, cmp_eq, cmp_eq, zc_eq, pV_at,
    show (fun e => dV x v (ix2 i e)) = score x v i from funext fun e => dV_at x v i e]
  unfold pick
  have e0 := ex_word _ h0.1 h0.2 e
  have e1 := ex_word _ h1.1 h1.2 e
  by_cases c0 : e = ex (r0 (ix2 i 0)) <;> by_cases c1 : e = ex (r1 (ix2 i 0))
  · rw [if_pos (e0.mpr c0), if_pos (e1.mpr c1), if_pos (Or.inl c0)]; rfl
  · rw [if_pos (e0.mpr c0), if_neg (fun h => c1 (e1.mp h)), if_pos (Or.inl c0)]; rfl
  · rw [if_neg (fun h => c0 (e0.mp h)), if_pos (e1.mpr c1), if_pos (Or.inr c1)]; rfl
  · rw [if_neg (fun h => c0 (e0.mp h)), if_neg (fun h => c1 (e1.mp h)), if_neg (fun h => h.elim c0 c1)]; rfl

/-- A row's gates. -/
theorem pay5_at (x : FVec Ideal S1024x512 .f32) (v : FVec Ideal S512x32 .f32) (r0 r1 : IVec S1024x1 32) (i : Fin 1024)
    (h0 : 0 ≤ (r0 (ix2 i 0)).toInt ∧ (r0 (ix2 i 0)).toInt < 32) (h1 : 0 ≤ (r1 (ix2 i 0)).toInt ∧ (r1 (ix2 i 0)).toInt < 32)
    (e : Fin 32) :
    k0_pay5 (F := Ideal) (k0_pay3 x v r0 r1) (k0_pay4 x v r0 r1) (ix2 i e)
      = gate (score x v i) (ex (r0 (ix2 i 0))) (ex (r1 (ix2 i 0))) e := by
  unfold gate
  rw [← pay3_at x v r0 r1 i h0 h1 e, Finset.sum_congr rfl fun k _ => (pay3_at x v r0 r1 i h0 h1 k).symm,
    ← add_at (k0_pay3 (F := Ideal) x v r0 r1) i,
    ← spread_at (multiReduction .add [1] S1024 (k0_pay3 (F := Ideal) x v r0 r1) 0x00000000#32 reduces_S1024x32_S1024 (.inl rfl) rfl) i e]
  rfl

/-- The tokens under the gates `g` of expert number `w`. -/
def gx (w : BitVec 32) (x : FVec Ideal S1024x512 .f32) (g : FVec Ideal S1024x32 .f32) : FVec Ideal S1024x512 .f32 :=
  mulf x (broadcastTo S1024x512 (shapeCast S1024x1 (multiReduction .add [1] S1024
    (select (cmpi .eq iotaV (broadcast S1024x32 w)) g (broadcast S1024x32 (zc : Ideal .f32))) 0x00000000#32
    reduces_S1024x32_S1024 (.inl rfl) rfl) shapeCasts_S1024_S1024x1) broadcasts_S1024x1_S1024x512)

theorem gx_at (w : BitVec 32) (n : Fin 32) (hw : w = BitVec.ofNat 32 n.val) (x : FVec Ideal S1024x512 .f32)
    (g : FVec Ideal S1024x32 .f32) (i : Fin 1024) (k : Fin 512) : gx w x g (ix2 i k) = x (ix2 i k) * g (ix2 i n) := by
  unfold gx
  show x (ix2 i k) * _ = _
  rw [spread512_at, add_at]
  refine congrArg (x (ix2 i k) * ·) ?_
  refine Eq.trans ?_ (sum_ite_gate (fun e => g (ix2 i e)) n)
  refine Finset.sum_congr rfl fun e _ => ?_
  show Scalar.select (IntOp.cmpi .eq (iotaV (ix2 i e)) w) (g (ix2 i e)) (zc : Ideal .f32) = _
  rw [iotaV_at, cmp_eq, zc_eq, hw]
  by_cases c : e = n
  · rw [if_pos (by rw [c]), if_pos c]; rfl
  · rw [if_neg (fun h => c (Fin.ext (by
      have := congrArg BitVec.toNat h
      rw [BitVec.toNat_ofNat, BitVec.toNat_ofNat, Nat.mod_eq_of_lt (by have := e.isLt; omega),
        Nat.mod_eq_of_lt (by have := n.isLt; omega)] at this
      exact this))), if_neg c]; rfl

/-! ## A round's partial sums -/

/-- The product of the gated tokens with a column range of one expert. -/
def mmV (g : FVec Ideal S1024x512 .f32) (w : FVec Ideal S1x512x256 .f32) : FVec Ideal S1024x256 .f32 :=
  matmul dot_S1024x512_S512x256_S1024x256_1_0_0_1_n_n none g (shapeCast S512x256 w shapeCasts_S1x512x256_S512x256)
    (constant S1024x256 .f32 0x00000000#32)

theorem mmV_at (g : FVec Ideal S1024x512 .f32) (w : FVec Ideal S1x512x256 .f32) (i : Fin 1024) (h : Fin 256) :
    mmV g w (ix2 i h) = ∑ k : Fin 512, g (ix2 i k) * w (ix3 0 k h) := by
  unfold mmV
  refine (Ideal.matmul_plain_apply (M := 1024) (K := 512) (N := 256) none g _ _ i h).trans ?_
  show Ideal.ofBits .f32 0x00000000#32 + _ = _
  rw [Ideal.ofBits_zero_f32, zero_add]
  exact Finset.sum_congr rfl fun k _ => congrArg (g (ix2 i k) * ·) (shapeCast_1ab_ab_apply w shapeCasts_S1x512x256_S512x256 k h)

/-- The row of the token block that piece `d` holds at its row `a`. -/
def row (d : Fin 8) (a : Fin 128) : Fin 1024 := ⟨128 * d.val + a.val, by omega⟩

theorem pay10_at (g0 g1 g2 g3 : FVec Ideal S1024x512 .f32) (w0 w1 w2 w3 : FVec Ideal S1x512x256 .f32) (d : Fin 8) (a : Fin 128)
    (h : Fin 256) :
    k0_pay10 (F := Ideal) g0 g1 g2 g3 zc w0 w1 w2 w3 (ix4 0 d a h)
      = mmV g0 w0 (ix2 (row d a) h) + mmV g1 w1 (ix2 (row d a) h) + mmV g2 w2 (ix2 (row d a) h) + mmV g3 w3 (ix2 (row d a) h) := by
  have e : k0_pay10 (F := Ideal) g0 g1 g2 g3 zc w0 w1 w2 w3
      = shapeCast S1x8x128x256 (shapeCast S8x128x256 (addf (addf (addf (addf (broadcast S1024x256 (zc : Ideal .f32)) (mmV g0 w0)) (mmV g1 w1))
          (mmV g2 w2)) (mmV g3 w3)) shapeCasts_S1024x256_S8x128x256) shapeCasts_S8x128x256_S1x8x128x256 := rfl
  rw [e]
  refine (shapeCast_abc_1abc_apply _ shapeCasts_S8x128x256_S1x8x128x256 0 d a h).trans ?_
  refine (shapeCast_apply _ shapeCasts_S1024x256_S8x128x256 (ix3 d a h) (ix2 (row d a) h) ?_).trans ?_
  · rw [Shape.rowMajor_val_two, Shape.rowMajor_val_three]
    show (128 * d.val + a.val) * 256 + h.val = (d.val * 128 + a.val) * 256 + h.val
    omega
  · show (zc : Ideal .f32) + mmV g0 w0 _ + _ + _ + _ = _
    rw [zc_eq, zero_add]

end Cert.MoeProof
-- ==== Proof.KernelValue.lean ====
/-
The kernel's result read at an element: the sum over all devices of their experts' gated products.
-/
module

public import proofs.«01_k».proof.Proof.PayValue

@[expose] public section

noncomputable section

namespace Cert.MoeProof

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- The arrays a device starts from. -/
abbrev aX (c : Dev nD) : FVec Ideal S1024x512 .f32 := m ((c : Thread nD τ).loc main_arg0)
abbrev aV (c : Dev nD) : FVec Ideal S512x32 .f32 := m ((c : Thread nD τ).loc main_arg1)
abbrev aR (c : Dev nD) : IVec S1024x2 32 := m ((c : Thread nD τ).loc main_arg2)
abbrev aW (c : Dev nD) : FVec Ideal S4x512x1024 .f32 := m ((c : Thread nD τ).loc main_arg3)

/-! ## What the body loads -/

theorem xstg_eq (c : Dev nD) : xstg m ρ c = aX m c :=
  Memref.read_access_unit_zero (Elt Ideal) main_arg0
    (show (fun a => (win0_0.index (0 : Fin 1)) a * main_arg0.ty.shape.size a) = fun _ => 0 from funext fun a => by fin_cases a <;> decide)
    (fun a => by fin_cases a <;> decide) _
theorem wstg_eq (c : Dev nD) : wstg m ρ c = aV m c :=
  Memref.read_access_unit_zero (Elt Ideal) main_arg1
    (show (fun a => (win0_1.index (0 : Fin 1)) a * main_arg1.ty.shape.size a) = fun _ => 0 from funext fun a => by fin_cases a <;> decide)
    (fun a => by fin_cases a <;> decide) _
theorem istg_eq (c : Dev nD) : istg m ρ c = aR m c :=
  Memref.read_access_unit_zero (Elt Ideal) main_arg2
    (show (fun a => (win0_2.index (0 : Fin 1)) a * main_arg2.ty.shape.size a) = fun _ => 0 from funext fun a => by fin_cases a <;> decide)
    (fun a => by fin_cases a <;> decide) _
theorem estg_eq (c : Dev nD) : estg m ρ c = aW m c :=
  Memref.read_access_unit_zero (Elt Ideal) main_arg3
    (show (fun a => (win0_3.index (0 : Fin 1)) a * main_arg3.ty.shape.size a) = fun _ => 0 from funext fun a => by fin_cases a <;> decide)
    (fun a => by fin_cases a <;> decide) _

theorem ldX_eq (c : Dev nD) : ldX m ρ c = aX m c := by
  rw [← xstg_eq m ρ c]
  funext i
  refine congrArg (xstg m ρ c) (funext fun a => Fin.ext ?_)
  fin_cases a <;> refine (LoadRect.idx_apply _ _ _).trans ?_ <;> simp [Rect.unit]
theorem ldW_eq (c : Dev nD) : ldW m ρ c = aV m c := by
  rw [← wstg_eq m ρ c]
  funext i
  refine congrArg (wstg m ρ c) (funext fun a => Fin.ext ?_)
  fin_cases a <;> refine (LoadRect.idx_apply _ _ _).trans ?_ <;> simp [Rect.unit]
theorem ldI0_at (c : Dev nD) (i : Fin 1024) : ldI0 m ρ c (ix2 i 0) = aR m c (ix2 i 0) := by
  rw [← istg_eq m ρ c]
  refine congrArg (istg m ρ c) (funext fun a => Fin.ext ?_)
  fin_cases a <;> refine (LoadRect.idx_apply _ _ _).trans ?_ <;> simp [Rect.unit, ix2]
theorem ldI1_at (c : Dev nD) (i : Fin 1024) : ldI1 m ρ c (ix2 i 0) = aR m c (ix2 i 1) := by
  rw [← istg_eq m ρ c]
  refine congrArg (istg m ρ c) (funext fun a => Fin.ext ?_)
  fin_cases a <;> refine (LoadRect.idx_apply _ _ _).trans ?_ <;> simp [Rect.unit, ix2]

/-- Column `h` of round `r`. -/
def colOf (r : Fin 4) (h : Fin 256) : Fin 1024 := ⟨256 * r.val + h.val, by omega⟩

theorem ldE_at (c : Dev nD) (r j : Fin 4) (k : Fin 512) (h : Fin 256) :
    ldE m ρ c r j (ix3 0 k h) = aW m c (ix3 j k (colOf r h)) := by
  rw [← estg_eq m ρ c]
  refine congrArg (estg m ρ c) (funext fun a => Fin.ext ?_)
  fin_cases a <;> refine (LoadRect.idx_apply _ _ _).trans ?_ <;> simp [Rect.unit, ix3, colOf]

/-! ## A device's partial sums -/

/-- The number of expert `j` of device `c`. -/
def expert (c : Dev nD) (j : Fin 4) : Fin 32 := ⟨4 * c.val + j.val, by have h : c.val < 8 := c.isLt; have := j.isLt; omega⟩

theorem word_expert (c : Dev nD) (j : Fin 4) :
    Scalar.addi (Scalar.muli (qw c) 4#32) (BitVec.ofNat 32 j.val) = BitVec.ofNat 32 (expert c j).val := by
  revert c j; decide

/-- The gate of expert number `n` for token `i`, as device `c` computes it. -/
def gt (c : Dev nD) (i : Fin 1024) (n : Fin 32) : EReal :=
  gate (score (aX m c) (aV m c) i) (ex (aR m c (ix2 i 0))) (ex (aR m c (ix2 i 1))) n

/-- The index words of every device name experts. -/
def InRange : Prop := ∀ (c : Dev nD) (i : S1024x2.Idx), 0 ≤ (aR m c i).toInt ∧ (aR m c i).toInt < 32

variable {m} (hr : InRange m)
include hr

theorem pay5_m (c : Dev nD) (i : Fin 1024) (e : Fin 32) :
    k0_pay5 (F := Ideal) (k0_pay3 (ldX m ρ c) (ldW m ρ c) (ldI0 m ρ c) (ldI1 m ρ c))
      (k0_pay4 (ldX m ρ c) (ldW m ρ c) (ldI0 m ρ c) (ldI1 m ρ c)) (ix2 i e) = gt m c i e := by
  rw [pay5_at _ _ _ _ i (by rw [ldI0_at]; exact hr c _) (by rw [ldI1_at]; exact hr c _), ldI0_at, ldI1_at, ldX_eq, ldW_eq]
  rfl

theorem xg0_at (c : Dev nD) (i : Fin 1024) (k : Fin 512) : xg0 m ρ c (ix2 i k) = aX m c (ix2 i k) * gt m c i (expert c 0) := by
  rw [← pay5_m ρ hr, ← congrFun (ldX_eq m ρ c) (ix2 i k), ← congrFun (pay2_eq (ldX m ρ c)) (ix2 i k)]
  exact gx_at _ (expert c 0) (word_expert c 0) _ _ i k
theorem xg1_at (c : Dev nD) (i : Fin 1024) (k : Fin 512) : xg1 m ρ c (ix2 i k) = aX m c (ix2 i k) * gt m c i (expert c 1) := by
  rw [← pay5_m ρ hr, ← congrFun (ldX_eq m ρ c) (ix2 i k), ← congrFun (pay2_eq (ldX m ρ c)) (ix2 i k)]
  exact gx_at _ (expert c 1) (word_expert c 1) _ _ i k
theorem xg2_at (c : Dev nD) (i : Fin 1024) (k : Fin 512) : xg2 m ρ c (ix2 i k) = aX m c (ix2 i k) * gt m c i (expert c 2) := by
  rw [← pay5_m ρ hr, ← congrFun (ldX_eq m ρ c) (ix2 i k), ← congrFun (pay2_eq (ldX m ρ c)) (ix2 i k)]
  exact gx_at _ (expert c 2) (word_expert c 2) _ _ i k
theorem xg3_at (c : Dev nD) (i : Fin 1024) (k : Fin 512) : xg3 m ρ c (ix2 i k) = aX m c (ix2 i k) * gt m c i (expert c 3) := by
  rw [← pay5_m ρ hr, ← congrFun (ldX_eq m ρ c) (ix2 i k), ← congrFun (pay2_eq (ldX m ρ c)) (ix2 i k)]
  exact gx_at _ (expert c 3) (word_expert c 3) _ _ i k

omit hr in
/-- Expert `j` of device `s`: the product of its gated token row `i` with column `h`. -/
def share (m : (ℓ : Loc nD τ sig) → Buf (Elt Ideal) ℓ) (s : Dev nD) (j : Fin 4) (i h : Fin 1024) : EReal :=
  ∑ k : Fin 512, (aX m s (ix2 i k) * gt m s i (expert s j)) * aW m s (ix3 j k h)

/-- A piece's element: the sum over the device's four experts. -/
theorem slab_at (s : Dev nD) (r : Fin 4) (d : Fin 8) (a : Fin 128) (h : Fin 256) :
    slabV m ρ s r (ix4 0 d a h) = ∑ j : Fin 4, share m s j (row d a) (colOf r h) := by
  unfold slabV
  rw [pay10_at, mmV_at, mmV_at, mmV_at, mmV_at, Fin.sum_univ_four]
  have e0 : ∑ k : Fin 512, xg0 m ρ s (ix2 (row d a) k) * ldE m ρ s r 0 (ix3 0 k h) = share m s 0 (row d a) (colOf r h) :=
    Finset.sum_congr rfl fun k _ => by rw [xg0_at ρ hr, ldE_at]
  have e1 : ∑ k : Fin 512, xg1 m ρ s (ix2 (row d a) k) * ldE m ρ s r 1 (ix3 0 k h) = share m s 1 (row d a) (colOf r h) :=
    Finset.sum_congr rfl fun k _ => by rw [xg1_at ρ hr, ldE_at]
  have e2 : ∑ k : Fin 512, xg2 m ρ s (ix2 (row d a) k) * ldE m ρ s r 2 (ix3 0 k h) = share m s 2 (row d a) (colOf r h) :=
    Finset.sum_congr rfl fun k _ => by rw [xg2_at ρ hr, ldE_at]
  have e3 : ∑ k : Fin 512, xg3 m ρ s (ix2 (row d a) k) * ldE m ρ s r 3 (ix3 0 k h) = share m s 3 (row d a) (colOf r h) :=
    Finset.sum_congr rfl fun k _ => by rw [xg3_at ρ hr, ldE_at]
  rw [e0, e1, e2, e3]

/-! ## The result -/

omit hr in
theorem own_at (c : Dev nD) (r : Fin 4) (a : Fin 128) (h : Fin 256) :
    k0_pay20 (ownV m ρ c r) (ix2 a h) = slabV m ρ c r (ix4 0 (c : Fin 8) a h) := by
  refine (show k0_pay20 (ownV m ρ c r) (ix2 a h) = shapeCast S128x256 (ownV m ρ c r) shapeCasts_S1x1x128x256_S128x256 (ix2 a h) from rfl).trans ?_
  refine (shapeCast_apply (ownV m ρ c r) shapeCasts_S1x1x128x256_S128x256 (ix2 a h) (ix4 0 0 a h) ?_).trans ?_
  · rw [Shape.rowMajor_val_two, Shape.rowMajor_val_four]
    show ((0 * 1 + 0) * 128 + a.val) * 256 + h.val = a.val * 256 + h.val
    omega
  · have e : ownV m ρ c r (ix4 0 0 a h) = psV m ρ c (ix4 r (c : Fin 8) a h) := by
      refine congrArg (psV m ρ c) (funext fun b => Fin.ext ?_)
      fin_cases b <;> refine (LoadRect.idx_apply _ _ _).trans ?_ <;> simp [Rect.unit, ix4]
    refine e.trans ?_
    refine congrArg (slabV m ρ c r) (funext fun b => ?_)
    fin_cases b <;> rfl

omit hr in
theorem got_at (v : FVec Ideal S128x256 .f32) (c : Dev nD) (r : Fin 4) (o : Fin 7) (a : Fin 128) (h : Fin 256) :
    k0_pay1 v (gotV m ρ c r o) (ix2 a h) = v (ix2 a h) + slabV m ρ (src c o) r (ix4 0 (c : Fin 8) a h) := by
  refine congrArg (v (ix2 a h) + ·) ?_
  refine (shapeCast_apply (gotV m ρ c r o) shapeCasts_S1x1x128x256_S128x256 (ix2 a h) (ix4 0 0 a h) ?_).trans ?_
  · rw [Shape.rowMajor_val_two, Shape.rowMajor_val_four]
    show ((0 * 1 + 0) * 128 + a.val) * 256 + h.val = a.val * 256 + h.val
    omega
  · have e : gotV m ρ c r o (ix4 0 0 a h) = cmV m ρ c (ix4 r o a h) := by
      refine congrArg (cmV m ρ c) (funext fun b => Fin.ext ?_)
      fin_cases b <;> refine (LoadRect.idx_apply _ _ _).trans ?_ <;> simp [Rect.unit, ix4]
    refine e.trans ?_
    refine congrArg (slabV m ρ (src c o) r) (funext fun b => ?_)
    fin_cases b <;> rfl

omit hr in
/-- Every device once, in the order of the landings. -/
theorem sum_devices (c : Dev nD) (T : Dev nD → EReal) :
    T c + T (src c 0) + T (src c 1) + T (src c 2) + T (src c 3) + T (src c 4) + T (src c 5) + T (src c 6) = ∑ s : Fin 8, T s := by
  have h : ∀ c : Dev nD, Function.Bijective (fun k : Fin 8 => (![c, src c 0, src c 1, src c 2, src c 3, src c 4, src c 5, src c 6] : Fin 8 → Dev nD) k) := by
    decide
  rw [← Function.Bijective.sum_comp (h c) T, Fin.sum_univ_eight]
  rfl

/-- An element of the result block. -/
theorem out_at (c : Dev nD) (a : Fin 128) (h : Fin 1024) :
    outV m ρ c (ix2 a h) = ∑ s : Fin 8, ∑ j : Fin 4, share m s j (row (c : Fin 8) a) h := by
  have hrd : h.val / 256 < 4 := by have := h.isLt; omega
  have hcol : colOf ⟨h.val / 256, hrd⟩ ⟨h.val % 256, Nat.mod_lt _ (by decide)⟩ = h := Fin.ext (Nat.div_add_mod h.val 256)
  have e : outV m ρ c (ix2 a h) = sumV m ρ c ⟨h.val / 256, hrd⟩ 7 (ix2 a ⟨h.val % 256, Nat.mod_lt _ (by decide)⟩) := by
    show sumV m ρ c (Fin.ofNat 4 (h.val / 256)) 7 (inRound (ix2 a h)) = _
    rw [show (Fin.ofNat 4 (h.val / 256)) = ⟨h.val / 256, hrd⟩ from Fin.ext (Nat.mod_eq_of_lt hrd)]
    refine congrArg _ (funext fun b => ?_)
    fin_cases b <;> rfl
  rw [e]
  generalize hq : (⟨h.val / 256, hrd⟩ : Fin 4) = r at hcol ⊢
  generalize (⟨h.val % 256, Nat.mod_lt _ (by decide)⟩ : Fin 256) = g at hcol ⊢
  simp only [sumV]
  rw [got_at, got_at, got_at, got_at, got_at, got_at, got_at, own_at]
  refine (sum_devices c fun s => slabV m ρ s r (ix4 0 (c : Fin 8) a g)).trans ?_
  exact Finset.sum_congr rfl fun s _ => by rw [slab_at ρ hr, hcol]

end Cert.MoeProof
-- ==== Proof.RefValue.lean ====
/-
The reference's result read at an element: the two chosen experts' products under their renormalized weights.
-/
module

public import proofs.«01_k».proof.Proof.Gate
public import proofs.«01_k».proof.Proof.Gen.ReferenceIdeal.Run
public import Idealize.ShloMosaic.Lib.StackMember
public import Idealize.ShloMosaic.Lib.ValueLayout
public import Idealize.ShloMosaic.Lib.ValueLayoutCasts
public import Idealize.ShloMosaic.Lib.KernelVsHost

@[expose] public section

noncomputable section

namespace Cert.MoeProof.Ref

open Cert.ReferenceIdeal Cert.ReferenceIdeal.Gen
open Idealize.ShloMosaic Idealize.ShloMosaic.TcCoe Idealize.ShloMosaic.ValueIdx Idealize.ShloMosaic.StackMember

/-! ## The stages -/

/-- A vector with one entry per row, spread over the columns. -/
abbrev col (x : FVec Ideal S1024 .f32) : FVec Ideal S1024x32 .f32 :=
  broadcastInDim S1024x32 ![0, 1] bcast_S1024x1_S1024x32_0_1 (broadcastInDim S1024x1 ![0] bcast_S1024_S1024x1_0 x)

def D (x : FVec Ideal S1024x512 .f32) (v : FVec Ideal S512x32 .f32) : FVec Ideal S1024x32 .f32 :=
  Host.dotGeneral dot_S1024x512_S512x32_S1024x32_1_0_0_1_n_n none x v

def X (d : FVec Ideal S1024x32 .f32) : FVec Ideal S1024x32 .f32 :=
  Host.exp (subf d (col (Host.reduce FloatOps.maximumf d (constant S_ .f32 0xFF800000#32) reducesTo_S1024x32_S1024_d1 h_S_)))

def P (d : FVec Ideal S1024x32 .f32) : FVec Ideal S1024x32 .f32 :=
  Host.divf (X d) (col (Host.reduceAdd (X d) (constant S_ .f32 0x00000000#32) reducesTo_S1024x32_S1024_d1 h_S_))

def I : IVec S1024 32 :=
  select (cmpi .slt (iotaInDim S1024 32 0) (broadcastInDim S1024 ![] bcast_S_S1024 (constantI S_ 32 0#32)))
    (addi (iotaInDim S1024 32 0) (broadcastInDim S1024 ![] bcast_S_S1024 (constantI S_ 32 1024#32))) (iotaInDim S1024 32 0)

def E0 (r : IVec S1024x2 32) : IVec S1024 32 :=
  shapeCast _ (extractStridedSlice S1024x1 ![0, 0] r slices_S1024x2_S1024x1_0_0) shapeCasts_S1024x1_S1024

def E1 (r : IVec S1024x2 32) : IVec S1024 32 :=
  shapeCast _ (extractStridedSlice S1024x1 ![0, 1] r slices_S1024x2_S1024x1_0_1) shapeCasts_S1024x1_S1024

def wrap (e : IVec S1024 32) : IVec S1024 32 :=
  select (cmpi .slt e (broadcastInDim S1024 ![] bcast_S_S1024 (constantI S_ 32 0#32)))
    (addi e (broadcastInDim S1024 ![] bcast_S_S1024 (constantI S_ 32 32#32))) e

def G (p : FVec Ideal S1024x32 .f32) (e : IVec S1024 32) : FVec Ideal S1024 .f32 :=
  Host.gather gather_S1024x32_S1024x2_S1024_n_01_n_n_01_1_11 p
    (concatenate S1024x2 1 [⟨S1024x1, broadcastInDim S1024x1 ![0] bcast_S1024_S1024x1_0 I⟩,
      ⟨S1024x1, broadcastInDim S1024x1 ![0] bcast_S1024_S1024x1_0 e⟩] concatenates_S1024x1_S1024x1_S1024x2_d1)

def Y (x : FVec Ideal S1024x512 .f32) (w : FVec Ideal S32x512x1024 .f32) (e : IVec S1024 32) : FVec Ideal S1024x1024 .f32 :=
  Host.dotGeneral dot_S1024x512_S1024x512x1024_S1024x1024_1_1_n_2_0_0 none x
    (Host.gather gather_S32x512x1024_S1024x1_S1024x512x1024_12_0_n_n_0_1_15121024 w
      (broadcastInDim S1024x1 ![0] bcast_S1024_S1024x1_0 e))

def term (g s : FVec Ideal S1024 .f32) (y : FVec Ideal S1024x1024 .f32) : FVec Ideal S1024x1024 .f32 :=
  mulf (broadcastInDim S1024x1024 ![0, 1] bcast_S1024x1_S1024x1024_0_1
    (broadcastInDim S1024x1 ![0] bcast_S1024_S1024x1_0 (Host.divf g s))) y

def result (x : FVec Ideal S1024x512 .f32) (v : FVec Ideal S512x32 .f32) (r : IVec S1024x2 32)
    (w : FVec Ideal S32x512x1024 .f32) : FVec Ideal S1024x1024 .f32 :=
  addf (term (G (P (D x v)) (wrap (E0 r))) (addf (G (P (D x v)) (wrap (E0 r))) (G (P (D x v)) (wrap (E1 r)))) (Y x w (wrap (E0 r))))
    (term (G (P (D x v)) (wrap (E1 r))) (addf (G (P (D x v)) (wrap (E0 r))) (G (P (D x v)) (wrap (E1 r)))) (Y x w (wrap (E1 r))))

theorem res_eq (m : (ℓ : Loc nD τ sig) → Buf (Elt Ideal) ℓ) (c : Dev nD) :
    Cert.ReferenceIdeal.Value.res_main_v68 m c
      = result (m (c.tc.loc main_arg0)) (m (c.tc.loc main_arg1)) (m (c.tc.loc main_arg2)) (m (c.tc.loc main_arg3)) := rfl

/-! ## Each stage at an element -/

theorem D_at (x : FVec Ideal S1024x512 .f32) (v : FVec Ideal S512x32 .f32) (i : Fin 1024) (e : Fin 32) :
    D x v (ix2 i e) = score x v i e := dotGeneral_plain_apply none x v i e

theorem col_at (x : FVec Ideal S1024 .f32) (i : Fin 1024) (e : Fin 32) : col x (ix2 i e) = x (ix1 i) := by
  unfold col broadcastInDim
  refine congrArg x (funext fun a => ?_)
  fin_cases a
  rfl

theorem reduces : S1024x32.Reduces [1] S1024 := by decide

theorem lift_at (i : Fin 1024) (k : Fin 32) : reduces.lift (ix1 i) k = ix2 i k := by
  funext a
  fin_cases a <;> rfl

theorem max_at (d : FVec Ideal S1024x32 .f32) (i : Fin 1024) :
    Host.reduce FloatOps.maximumf d (constant S_ .f32 0xFF800000#32) reducesTo_S1024x32_S1024_d1 h_S_ (ix1 i)
      = rowMax fun e => d (ix2 i e) := by
  rw [hostReduce_maximumf_eq_multiReduction d _ _ _ reduces (by decide) (by decide), Ideal.multiReduction_maximumf_single]
  unfold rowMax
  rw [show (FloatOps.ofBits .f32 0xFF800000#32 : Ideal .f32) = ⊥ from negInf]
  exact congrArg (Finset.univ.fold max ⊥) (funext fun k => congrArg d (lift_at i k))

theorem X_at (d : FVec Ideal S1024x32 .f32) (i : Fin 1024) (e : Fin 32) :
    X d (ix2 i e) = Ideal.exp (d (ix2 i e) - rowMax fun e => d (ix2 i e)) := by
  rw [← max_at, ← col_at (Host.reduce FloatOps.maximumf d (constant S_ .f32 0xFF800000#32) reducesTo_S1024x32_S1024_d1 h_S_) i e]
  rfl

theorem P_at (d : FVec Ideal S1024x32 .f32) (i : Fin 1024) (e : Fin 32) :
    P d (ix2 i e) = soft (fun e => d (ix2 i e)) e := by
  have h : Host.reduceAdd (X d) (constant S_ .f32 0x00000000#32) reducesTo_S1024x32_S1024_d1 h_S_ (ix1 i)
      = ∑ k, X d (ix2 i k) := by
    refine (Ideal.hostReduceAdd_single reducesTo_S1024x32_S1024_d1 reduces (X d) _ (ix1 i)).trans ?_
    rw [show (constant (F := Ideal) S_ .f32 0x00000000#32) (Shape.Idx.first h_S_) = 0 from Ideal.ofBits_zero_f32, zero_add]
    exact Finset.sum_congr rfl fun k _ => congrArg (X d) (lift_at i k)
  unfold soft
  rw [← X_at, Finset.sum_congr rfl fun k _ => (X_at d i k).symm, ← h,
    ← col_at (Host.reduceAdd (X d) (constant S_ .f32 0x00000000#32) reducesTo_S1024x32_S1024_d1 h_S_) i e]
  rfl

theorem E0_at (r : IVec S1024x2 32) (i : Fin 1024) : E0 r (ix1 i) = r (ix2 i 0) := by
  refine (shapeCast_apply _ shapeCasts_S1024x1_S1024 (ix1 i) (ix2 i (0 : Fin 1)) ?_).trans ?_
  · rw [Shape.rowMajor_val_two, Shape.rowMajor_val_one]
    show i.val * 1 + 0 = i.val
    omega
  · refine congrArg r (funext fun a => ?_)
    fin_cases a <;> exact Fin.ext (by simp [ix2])

theorem E1_at (r : IVec S1024x2 32) (i : Fin 1024) : E1 r (ix1 i) = r (ix2 i 1) := by
  refine (shapeCast_apply _ shapeCasts_S1024x1_S1024 (ix1 i) (ix2 i (0 : Fin 1)) ?_).trans ?_
  · rw [Shape.rowMajor_val_two, Shape.rowMajor_val_one]
    show i.val * 1 + 0 = i.val
    omega
  · refine congrArg r (funext fun a => ?_)
    fin_cases a <;> exact Fin.ext (by simp [ix2])

/-- The wrap leaves a non-negative word alone. -/
theorem wrap_at (e : IVec S1024 32) (i : S1024.Idx) (h : 0 ≤ (e i).toInt) : wrap e i = e i := by
  have : IntOp.cmpi .slt (e i) 0#32 = 0#1 := by
    show BitVec.ofBool ((e i).slt 0#32) = 0#1
    rw [show (e i).slt 0#32 = false from by rw [BitVec.slt]; simp; exact h]
    rfl
  show Scalar.select (IntOp.cmpi .slt (e i) 0#32) _ _ = _
  rw [this]; rfl

theorem I_at (i : Fin 1024) : (I (ix1 i)).toInt = i.val := by
  have h : (BitVec.ofNat 32 i.val).toInt = i.val := by
    rw [BitVec.toInt_eq_toNat_of_lt] <;> rw [BitVec.toNat_ofNat, Nat.mod_eq_of_lt (by omega)] <;> omega
  have : IntOp.cmpi .slt (BitVec.ofNat 32 i.val) 0#32 = 0#1 := by
    show BitVec.ofBool ((BitVec.ofNat 32 i.val).slt 0#32) = 0#1
    rw [show (BitVec.ofNat 32 i.val).slt 0#32 = false from by rw [BitVec.slt, h]; simp]
    rfl
  show (Scalar.select (IntOp.cmpi .slt (BitVec.ofNat 32 i.val) 0#32) _ (BitVec.ofNat 32 i.val)).toInt = _
  rw [this]; exact h

theorem col1_at (x : IVec S1024 32) (i : Fin 1024) : broadcastInDim S1024x1 ![0] bcast_S1024_S1024x1_0 x (ix2 i 0) = x (ix1 i) := by
  unfold broadcastInDim
  refine congrArg x (funext fun a => ?_)
  fin_cases a
  rfl

theorem cat0 (a b : IVec S1024x1 32) (i : Fin 1024) :
    concatenate S1024x2 1 [⟨S1024x1, a⟩, ⟨S1024x1, b⟩] concatenates_S1024x1_S1024x1_S1024x2_d1 (ix2 i 0) = a (ix2 i 0) := by
  refine congrArg a (funext fun b => ?_)
  fin_cases b <;> rfl

theorem cat1 (a b : IVec S1024x1 32) (i : Fin 1024) :
    concatenate S1024x2 1 [⟨S1024x1, a⟩, ⟨S1024x1, b⟩] concatenates_S1024x1_S1024x1_S1024x2_d1 (ix2 i 1) = b (ix2 i 0) := by
  refine congrArg b (funext fun b => ?_)
  fin_cases b <;> rfl

/-- The gather of one element per row, its row and column read from the two columns of `q`. -/
theorem point_gather (p : FVec Ideal S1024x32 .f32) (q : IVec S1024x2 32) (i : Fin 1024) :
    Host.gather gather_S1024x32_S1024x2_S1024_n_01_n_n_01_1_11 p q (ix1 i)
      = p (ix2 ⟨min (q (ix2 i 0)).toInt.toNat 1023, by omega⟩ ⟨min (q (ix2 i 1)).toInt.toNat 31, by omega⟩) := by
  unfold Host.gather
  refine congrArg p (funext fun a => Fin.ext ?_)
  show gather_S1024x32_S1024x2_S1024_n_01_n_n_01_1_11.start (ix1 i) q a
    + gather_S1024x32_S1024x2_S1024_n_01_n_n_01_1_11.batchCoord (ix1 i) a
    + gather_S1024x32_S1024x2_S1024_n_01_n_n_01_1_11.offCoord (ix1 i) a = _
  have h01 : a = 0 ∨ a = 1 := by
    match a with
    | ⟨0, _⟩ => exact Or.inl rfl
    | ⟨1, _⟩ => exact Or.inr rfl
  rw [GatherDims.batchCoord_eq_zero _ _ _ List.not_mem_nil, GatherDims.offCoord_eq_zero _ _ _ (by
    intro h
    refine ((GatherDims.mem_sKept _ _).mp h).1 ?_
    rcases h01 with rfl | rfl <;> decide)]
  simp only [Nat.add_zero]
  unfold GatherDims.start
  rcases h01 with rfl | rfl
  · rw [dif_pos (show (0 : Fin 2) ∈ (gather_S1024x32_S1024x2_S1024_n_01_n_n_01_1_11).startIndexMap from by decide)]
    rw [show (gather_S1024x32_S1024x2_S1024_n_01_n_n_01_1_11).siIdx (ix1 i) ⟨List.idxOf (0 : Fin 2)
      (gather_S1024x32_S1024x2_S1024_n_01_n_n_01_1_11).startIndexMap, List.idxOf_lt_length_iff.2 (by decide)⟩ = ix2 i 0 from by
        funext b; refine Fin.ext ?_
        match b with
        | ⟨0, _⟩ => rfl
        | ⟨1, _⟩ => rfl]
    rfl
  · rw [dif_pos (show (1 : Fin 2) ∈ (gather_S1024x32_S1024x2_S1024_n_01_n_n_01_1_11).startIndexMap from by decide)]
    rw [show (gather_S1024x32_S1024x2_S1024_n_01_n_n_01_1_11).siIdx (ix1 i) ⟨List.idxOf (1 : Fin 2)
      (gather_S1024x32_S1024x2_S1024_n_01_n_n_01_1_11).startIndexMap, List.idxOf_lt_length_iff.2 (by decide)⟩ = ix2 i 1 from by
        funext b; refine Fin.ext ?_
        match b with
        | ⟨0, _⟩ => rfl
        | ⟨1, _⟩ => rfl]
    rfl

/-- The gather of one expert's matrix per row, the expert read from the column `q`. -/
theorem row_gather (w : FVec Ideal S32x512x1024 .f32) (q : IVec S1024x1 32) (i : Fin 1024) (k : Fin 512) (h : Fin 1024) :
    Host.gather gather_S32x512x1024_S1024x1_S1024x512x1024_12_0_n_n_0_1_15121024 w q (ix3 i k h)
      = w (ix3 (ex (q (ix2 i 0))) k h) := by
  unfold Host.gather
  refine congrArg w (funext fun a => Fin.ext ?_)
  show gather_S32x512x1024_S1024x1_S1024x512x1024_12_0_n_n_0_1_15121024.start (ix3 i k h) q a
    + gather_S32x512x1024_S1024x1_S1024x512x1024_12_0_n_n_0_1_15121024.batchCoord (ix3 i k h) a
    + gather_S32x512x1024_S1024x1_S1024x512x1024_12_0_n_n_0_1_15121024.offCoord (ix3 i k h) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil]
  rcases h012 with rfl | rfl | rfl
  · rw [GatherDims.offCoord_eq_zero _ _ _ (fun h => ((GatherDims.mem_sKept _ _).mp h).1 (by decide))]
    simp only [Nat.add_zero]
    unfold GatherDims.start
    rw [dif_pos (show (0 : Fin 3) ∈ (gather_S32x512x1024_S1024x1_S1024x512x1024_12_0_n_n_0_1_15121024).startIndexMap from by decide)]
    rw [show (gather_S32x512x1024_S1024x1_S1024x512x1024_12_0_n_n_0_1_15121024).siIdx (ix3 i k h) ⟨List.idxOf (0 : Fin 3)
      (gather_S32x512x1024_S1024x1_S1024x512x1024_12_0_n_n_0_1_15121024).startIndexMap, List.idxOf_lt_length_iff.2 (by decide)⟩
        = ix2 i 0 from by
        funext b; refine Fin.ext ?_
        match b with
        | ⟨0, _⟩ => rfl
        | ⟨1, _⟩ => rfl]
    rfl
  · unfold GatherDims.start GatherDims.offCoord
    rw [dif_neg (by decide), dif_pos (by decide)]
    simp only [Nat.zero_add]
    rfl
  · unfold GatherDims.start GatherDims.offCoord
    rw [dif_neg (by decide), dif_pos (by decide)]
    simp only [Nat.zero_add]
    rfl

/-- The weight of the expert an index word in range names. -/
theorem G_at (p : FVec Ideal S1024x32 .f32) (e : IVec S1024 32) (i : Fin 1024) : G p e (ix1 i) = p (ix2 i (ex (e (ix1 i)))) := by
  unfold G
  rw [point_gather]
  refine congrArg p ?_
  congr 1
  · apply Fin.ext
    show min _ _ = _
    rw [cat0, col1_at, I_at]
    have := i.isLt
    omega
  · apply Fin.ext
    show min _ _ = min _ _
    rw [cat1, col1_at]

/-- A token's product with the matrix of the expert its index word names. -/
theorem Y_at (x : FVec Ideal S1024x512 .f32) (w : FVec Ideal S32x512x1024 .f32) (e : IVec S1024 32) (i h : Fin 1024) :
    Y x w e (ix2 i h) = ∑ k : Fin 512, x (ix2 i k) * w (ix3 (ex (e (ix1 i))) k h) := by
  unfold Y
  show FloatOps.dotGeneral dot_S1024x512_S1024x512x1024_S1024x1024_1_1_n_2_0_0 none _ x _ (ix2 i h) = _
  rw [Ideal.dotGeneral_apply,
    ← Equiv.sum_comp (contrEquiv1 dot_S1024x512_S1024x512x1024_S1024x1024_1_1_n_2_0_0 512 rfl rfl).symm]
  refine Finset.sum_congr rfl fun c _ => ?_
  have c3 := contrEquiv1_symm_val dot_S1024x512_S1024x512x1024_S1024x1024_1_1_n_2_0_0 512 rfl rfl c
  have l3 : (dot_S1024x512_S1024x512x1024_S1024x1024_1_1_n_2_0_0).lhsIdx (ix2 i h)
      ((contrEquiv1 _ 512 rfl rfl).symm c) = ix2 i c := by
    funext ax; apply Fin.ext
    match ax with
    | ⟨0, _⟩ => simp [DotDims.lhsIdx, dot_S1024x512_S1024x512x1024_S1024x1024_1_1_n_2_0_0]; rfl
    | ⟨1, _⟩ => simp [DotDims.lhsIdx, dot_S1024x512_S1024x512x1024_S1024x1024_1_1_n_2_0_0]; exact c3
  have r3 : (dot_S1024x512_S1024x512x1024_S1024x1024_1_1_n_2_0_0).rhsIdx (ix2 i h)
      ((contrEquiv1 _ 512 rfl rfl).symm c) = ix3 i c h := by
    funext ax; apply Fin.ext
    match ax with
    | ⟨0, _⟩ => simp [DotDims.rhsIdx, dot_S1024x512_S1024x512x1024_S1024x1024_1_1_n_2_0_0]; rfl
    | ⟨1, _⟩ => simp [DotDims.rhsIdx, dot_S1024x512_S1024x512x1024_S1024x1024_1_1_n_2_0_0]; exact c3
    | ⟨2, _⟩ => simp [DotDims.rhsIdx, dot_S1024x512_S1024x512x1024_S1024x1024_1_1_n_2_0_0]; rfl
  rw [l3, r3, row_gather, col1_at]

theorem term_at (g s : FVec Ideal S1024 .f32) (y : FVec Ideal S1024x1024 .f32) (i h : Fin 1024) :
    term g s y (ix2 i h) = Ideal.div (g (ix1 i)) (s (ix1 i)) * y (ix2 i h) := by
  unfold term broadcastInDim
  refine congrArg (· * y (ix2 i h)) ?_
  refine congrArg (Host.divf g s) (funext fun a => ?_)
  fin_cases a
  rfl

/-- The reference's result at an element, the index words in range. -/
theorem result_at (x : FVec Ideal S1024x512 .f32) (v : FVec Ideal S512x32 .f32) (r : IVec S1024x2 32)
    (w : FVec Ideal S32x512x1024 .f32) (hr : ∀ i, 0 ≤ (r i).toInt) (i h : Fin 1024) :
    result x v r w (ix2 i h) = moe x v r w i h := by
  have h0 : wrap (E0 r) (ix1 i) = r (ix2 i 0) := (wrap_at _ _ (by rw [E0_at]; exact hr _)).trans (E0_at r i)
  have h1 : wrap (E1 r) (ix1 i) = r (ix2 i 1) := (wrap_at _ _ (by rw [E1_at]; exact hr _)).trans (E1_at r i)
  have hs : (fun e => D x v (ix2 i e)) = score x v i := funext fun e => D_at x v i e
  have hg : ∀ e, P (D x v) (ix2 i e) = soft (score x v i) e := fun e => by rw [P_at, hs]
  unfold result moe
  show term _ _ _ (ix2 i h) + term _ _ _ (ix2 i h) = _
  have hsum : ∀ a b : FVec Ideal S1024 .f32, addf a b (ix1 i) = a (ix1 i) + b (ix1 i) := fun _ _ => rfl
  rw [term_at, term_at, hsum, G_at, G_at, Y_at, Y_at, hg, hg, h0, h1]

end Cert.MoeProof.Ref
-- ==== Proof.Value.lean ====
/-
The kernel's result and the reference's are the same array: what the precondition says of the arguments, the
sum over devices and their experts as one sum over all experts, and each device's block of the whole result.
-/
module

public import proofs.«01_k».proof.Defs
public import proofs.«01_k».proof.Proof.KernelValue
public import proofs.«01_k».proof.Proof.RefValue

@[expose] public section

noncomputable section

namespace Cert.MoeProof

open Cert.KernelIdeal Cert.KernelIdeal.Gen
open Idealize.ShloMosaic Idealize.ShloMosaic.TcCoe Idealize.ShloMosaic.ValueIdx

/-! ## What the precondition says -/

instance preKernel : Cert.Pre_routed_KernelIdeal.Facts := ⟨by decide, by decide, by decide⟩
instance preReference : Cert.Pre_routed_ReferenceIdeal.Facts := ⟨by decide, by decide, by decide⟩

/-- A value whose size is below infinity is real. -/
theorem real_of_lt (a : EReal) (h : max a (-a) < ⊤) : ∃ r : ℝ, a = r := by
  induction a using EReal.rec with
  | bot => simp at h
  | top => simp at h
  | coe r => exact ⟨r, rfl⟩

theorem lt_of_cmp (a : EReal) (h : Ideal.cmp .olt (max a (-a)) (Ideal.ofBits .f32 0x7F800000#32) = 1#1) : max a (-a) < ⊤ := by
  have hp : Ideal.ofBits .f32 0x7F800000#32 = ⊤ := posInf
  rw [hp] at h
  by_contra hn
  simp [Ideal.cmp, hn] at h

variable (m : (ℓ : Loc nD τ sig) → Buf (Elt Ideal) ℓ)

theorem pre_x (hp : Cert.Pre_KernelIdeal_routed_KernelIdeal m) (c : Dev nD) (i) : ∃ a : ℝ, aX m c i = a :=
  real_of_lt _ (lt_of_cmp _ (congrFun (hp c).1 i))

theorem pre_v (hp : Cert.Pre_KernelIdeal_routed_KernelIdeal m) (c : Dev nD) (i) : ∃ a : ℝ, aV m c i = a :=
  real_of_lt _ (lt_of_cmp _ (congrFun (hp c).2.1 i))

theorem of_sge (b : BitVec 32) (h : IntOp.cmpi .sge b 0#32 = 1#1) : 0 ≤ b.toInt := by
  cases hb : (0#32).sle b
  · simp [IntOp.cmpi, hb] at h
  · simpa [BitVec.sle] using hb

theorem of_slt (b : BitVec 32) (h : IntOp.cmpi .slt b 32#32 = 1#1) : b.toInt < 32 := by
  cases hb : b.slt 32#32
  · simp [IntOp.cmpi, hb] at h
  · simpa [BitVec.slt] using hb

theorem pre_r (hp : Cert.Pre_KernelIdeal_routed_KernelIdeal m) : InRange m := fun c i =>
  ⟨of_sge _ (congrFun (hp c).2.2.1 i), of_slt _ (congrFun (hp c).2.2.2 i)⟩

/-! ## One sum over all experts -/

theorem sum_expert (F : Fin 32 → EReal) : ∑ s : Fin 8, ∑ j : Fin 4, F (expert s j) = ∑ e : Fin 32, F e := by
  rw [← Fintype.sum_prod_type (f := fun p : Fin 8 × Fin 4 => F (expert p.1 p.2))]
  refine Function.Bijective.sum_comp (e := fun p : Fin 8 × Fin 4 => expert p.1 p.2) ⟨?_, ?_⟩ F
  · rintro ⟨s, j⟩ ⟨s', j'⟩ h
    have h' : 4 * s.val + j.val = 4 * s'.val + j'.val := congrArg Fin.val h
    have := j.isLt
    have := j'.isLt
    exact Prod.ext (Fin.ext (by show s.val = s'.val; omega)) (Fin.ext (by show j.val = j'.val; omega))
  · intro e
    have := e.isLt
    exact ⟨(⟨e.val / 4, by omega⟩, ⟨e.val % 4, by omega⟩), Fin.ext (Nat.div_add_mod e.val 4)⟩

/-! ## The result -/

theorem out_moe (ρ : Dev nD → PrngReg) (hp : Cert.Pre_KernelIdeal_routed_KernelIdeal m)
    (x : FVec Ideal S1024x512 .f32) (v : FVec Ideal S512x32 .f32) (r : IVec S1024x2 32)
    (w : (⟨3, ![32, 512, 1024]⟩ : Shape).Idx → EReal)
    (hx : ∀ c, aX m c = x) (hv : ∀ c, aV m c = v) (hr : ∀ c, aR m c = r)
    (hw : ∀ c : Dev nD, aW m c = Layout.block ⟨3, ![4, 512, 1024]⟩ ⟨3, ![32, 512, 1024]⟩ 0 8 c w)
    (c : Dev nD) (a : Fin 128) (h : Fin 1024) :
    outV m ρ c (ix2 a h) = moe x v r w (row (c : Fin 8) a) h := by
  have hs : ∀ (s : Fin 8) (j : Fin 4), share m s j (row (c : Fin 8) a) h
      = (fun e : Fin 32 => ∑ k : Fin 512, (x (ix2 (row (c : Fin 8) a) k)
          * gate (score x v (row (c : Fin 8) a)) (ex (r (ix2 (row (c : Fin 8) a) 0))) (ex (r (ix2 (row (c : Fin 8) a) 1))) e) * w (ix3 e k h)) (expert s j) := by
    intro s j
    refine Finset.sum_congr rfl fun k _ => ?_
    have e1 : aW m s (ix3 j k h) = w (ix3 (expert s j) k h) := by
      rw [hw s]
      refine congrArg w (funext fun b => Fin.ext ?_)
      fin_cases b
      · show s.val * 4 + j.val = 4 * s.val + j.val
        omega
      · rfl
      · rfl
    rw [e1]
    unfold gt
    rw [hx s, hv s, hr s]
  rw [out_at ρ (pre_r m hp) c a h]
  simp only [hs]
  rw [sum_expert (fun e : Fin 32 => ∑ k : Fin 512, (x (ix2 (row (c : Fin 8) a) k)
          * gate (score x v (row (c : Fin 8) a)) (ex (r (ix2 (row (c : Fin 8) a) 0))) (ex (r (ix2 (row (c : Fin 8) a) 1))) e) * w (ix3 e k h))]
  exact mix _ (score_real x v (fun i => hx c ▸ pre_x m hp c i) (fun i => hv c ▸ pre_v m hp c i) _) _ _
    (fun k => x (ix2 (row (c : Fin 8) a) k)) (fun e k => w (ix3 e k h))

theorem out_block (ρ : Dev nD → PrngReg) (hp : Cert.Pre_KernelIdeal_routed_KernelIdeal m)
    (x : FVec Ideal S1024x512 .f32) (v : FVec Ideal S512x32 .f32) (r : IVec S1024x2 32)
    (w : (⟨3, ![32, 512, 1024]⟩ : Shape).Idx → EReal)
    (hx : ∀ c, aX m c = x) (hv : ∀ c, aV m c = v) (hr : ∀ c, aR m c = r)
    (hw : ∀ c : Dev nD, aW m c = Layout.block ⟨3, ![4, 512, 1024]⟩ ⟨3, ![32, 512, 1024]⟩ 0 8 c w)
    (c : Dev nD) :
    outV m ρ c = Layout.block ⟨2, ![128, 1024]⟩ ⟨2, ![1024, 1024]⟩ 0 8 c (Ref.result x v r w) := by
  funext i
  obtain ⟨a, h, rfl⟩ : ∃ (a : Fin 128) (h : Fin 1024), i = ix2 a h := ⟨i 0, i 1, eq_ix2 i⟩
  rw [out_moe m ρ hp x v r w hx hv hr hw c a h,
    ← Ref.result_at x v r w (fun i => hr c ▸ (pre_r m hp c i).1) (row (c : Fin 8) a) h]
  refine congrArg (Ref.result x v r w) (funext fun b => Fin.ext ?_)
  fin_cases b
  · show 128 * c.val + a.val = c.val * 128 + a.val
    omega
  · rfl

end Cert.MoeProof

end
-- ==== Proof.lean ====
/- The proof of the claims: the three frames, the sanctioned idealization, and the equality over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The final state of the kernel's run leaves its four arguments as they were. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) {r : PUnit × MemSt Cert.KernelIdeal.nD Cert.KernelIdeal.τ Cert.KernelIdeal.sig (Elt F)}
    (h : Cert.MoeProof.QC m ρ r) (c : Dev Cert.KernelIdeal.nD) :
    r.2.mem ((c.tc : Thread _ _).loc Cert.KernelIdeal.main_arg0) = m ((c.tc : Thread _ _).loc Cert.KernelIdeal.main_arg0)
    ∧ r.2.mem ((c.tc : Thread _ _).loc Cert.KernelIdeal.main_arg1) = m ((c.tc : Thread _ _).loc Cert.KernelIdeal.main_arg1)
    ∧ r.2.mem ((c.tc : Thread _ _).loc Cert.KernelIdeal.main_arg2) = m ((c.tc : Thread _ _).loc Cert.KernelIdeal.main_arg2)
    ∧ r.2.mem ((c.tc : Thread _ _).loc Cert.KernelIdeal.main_arg3) = m ((c.tc : Thread _ _).loc Cert.KernelIdeal.main_arg3) :=
  ⟨(h c (0 : Fin 5)).trans (Cert.MoeProof.final_0 m ρ c), (h c (1 : Fin 5)).trans (Cert.MoeProof.final_1 m ρ c),
   (h c (2 : Fin 5)).trans (Cert.MoeProof.final_2 m ρ c), (h c (3 : Fin 5)).trans (Cert.MoeProof.final_3 m ρ c)⟩

/-- The kernel, over any float values, terminates with its arguments kept and all counters at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
      r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1)
      ∧ r.2.mem ((c.tc : Thread _ _).loc Cert.KernelIdeal.main_arg2) = m ((c.tc : Thread _ _).loc Cert.KernelIdeal.main_arg2)
      ∧ r.2.mem ((c.tc : Thread _ _).loc Cert.KernelIdeal.main_arg3) = m ((c.tc : Thread _ _).loc Cert.KernelIdeal.main_arg3))
      ∧ r.2.sem = fun _ => 0) :=
  (θ_run Cert.KernelIdeal.defs _ _).mono (fun _ h => ⟨fun c => args_kept m ρ h.1 c, h.2⟩) (Cert.MoeProof.run_main (F := F) m ρ)

set_option maxRecDepth 100000 in
/-- The two printed programs have the same table of bodies. -/
theorem bodies_eq : @Cert.Kernel.defs₀ Bits _ _ = @Cert.KernelIdeal.defs₀ Bits _ _ := by
  unfold Cert.Kernel.defs₀ Cert.KernelIdeal.defs₀
  refine congrArg (Defs.onTc (nD := 8)) ?_
  funext l a
  fin_cases l
  rfl

/-- The two printed programs have the same table of procedures. -/
theorem defs_eq : @Cert.Kernel.defs Bits _ _ = @Cert.KernelIdeal.defs Bits _ _ :=
  congrArg (Pipeline.defs (Cert.Kernel.pcfgs (F := Bits))) bodies_eq

/-- The kernel, over the machine's words, terminates with its arguments kept and all counters at zero. -/
theorem frame_kernel : Cert.quiescent_Kernel := fun m ρ _ => by
  rw [defs_eq]
  exact frame_any (F := Bits) m ρ

/-- The kernel, over the extended reals, terminates with its arguments kept and all counters at zero. -/
theorem frame_ideal : Cert.quiescent_KernelIdeal := fun m ρ _ => frame_any (F := Ideal) m ρ

/-- The reference, over the extended reals, terminates with its arguments kept and all counters at zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel's frame from the memories the precondition admits. -/
theorem frame_ideal_pre : Cert.quiescent_KernelIdeal_pre_routed_KernelIdeal := fun m ρ _ => frame_any (F := Ideal) m ρ

/-- The reference's frame from the memories the precondition admits. -/
theorem frame_reference_pre : Cert.quiescent_ReferenceIdeal_pre_routed_ReferenceIdeal := fun m ρ _ => frame_reference m ρ trivial

/-- Over the extended reals each device ends with its block of rows of the reference's result. -/
theorem equal : Cert.algebraic_KernelIdeal_ReferenceIdeal_pre_routed_KernelIdeal := fun m g m' g' hp ha =>
  ⟨Cert.ReferenceIdeal.Value.res_main_v68 m' 0,
    (θ_run Cert.KernelIdeal.defs _ _).mono (fun _ h c =>
      ⟨((h.1 c (4 : Fin 5)).trans (Cert.MoeProof.final_4 m g c)).trans
        ((Cert.MoeProof.out_block m g hp _ _ _ _ (fun c => (ha c).1) (fun c => (ha c).2.1) (fun c => (ha c).2.2.1) (fun c => (ha c).2.2.2) c).trans
          (congrArg (Layout.block ⟨2, ![128, 1024]⟩ ⟨2, ![1024, 1024]⟩ 0 8 c) (Cert.MoeProof.Ref.res_eq m' 0).symm)),
        args_kept m g h.1 c⟩) (Cert.MoeProof.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  Cert.MoeProof.preKernel, Cert.MoeProof.preReference,
  frame_kernel, frame_ideal, frame_ideal_pre, frame_reference, frame_reference_pre, trivial, equal⟩

end Cert.Proof

end
